-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_nonnegative [hPre_labels_nonnegative : Cert.Pre_labels_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_labels_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_nonnegative [hPre_labels_nonnegative : Cert.Pre_labels_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_nonnegative [hKernelIdeal : Cert.KernelIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_nonnegative [hReferenceIdeal : Cert.ReferenceIdeal.Facts] [hPre_labels_nonnegative : Cert.Pre_labels_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_nonnegative [hKernelIdeal : Cert.KernelIdeal.Facts] [hReferenceIdeal : Cert.ReferenceIdeal.Facts] [hPre_labels_nonnegative : Cert.Pre_labels_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_nonnegative : Cert.Pre_labels_nonnegative.Facts),
    quiescent_Kernel (hKernel := hKernel)
    ∧ quiescent_KernelIdeal (hKernelIdeal := hKernelIdeal)
    ∧ quiescent_KernelIdeal_pre_labels_nonnegative (hKernelIdeal := hKernelIdeal) (hPre_labels_nonnegative := hPre_labels_nonnegative)
    ∧ quiescent_ReferenceIdeal (hReferenceIdeal := hReferenceIdeal)
    ∧ quiescent_ReferenceIdeal_pre_labels_nonnegative (hReferenceIdeal := hReferenceIdeal) (hPre_labels_nonnegative := hPre_labels_nonnegative)
    ∧ preserves_Kernel_KernelIdeal
    ∧ algebraic_KernelIdeal_ReferenceIdeal_pre_labels_nonnegative (hKernelIdeal := hKernelIdeal) (hReferenceIdeal := hReferenceIdeal) (hPre_labels_nonnegative := hPre_labels_nonnegative)
-- ==== Pre_labels_nonnegative.lean ====
abbrev S2x262144x32 : Shape := ⟨3, ![2, 262144, 32]⟩
abbrev S2x262144 : Shape := ⟨2, ![2, 262144]⟩
abbrev S1x262144 : Shape := ⟨2, ![1, 262144]⟩
abbrev S262144 : Shape := ⟨1, ![262144]⟩
abbrev S_ : Shape := ⟨0, ![]⟩

class Facts : Prop where
  slices_S2x262144_S1x262144_0_0 : S2x262144.Slices ![0, 0] S1x262144
  shapeCasts_S1x262144_S262144 : S1x262144.ShapeCasts S262144
  bcast_S_S262144 : S_.BroadcastsInDim S262144 (![] : Fin 0 → Fin S262144.rank)

variable [Facts]

def fn {F : FTy → Type} [FloatOps F] (main_arg0 : FVec F S2x262144x32 .f32) (main_arg1 : IVec S2x262144 32) : IVec S262144 1 :=
  let main_v0 : IVec S1x262144 32 := (extractStridedSlice S1x262144 ![0, 0] · slices_S2x262144_S1x262144_0_0) main_arg1
  let main_v1 : IVec S262144 32 := shapeCast S262144 main_v0 shapeCasts_S1x262144_S262144
  let main_c : IVec S_ 32 := constantI S_ 32 0#32
  let main_v2 : IVec S262144 32 := broadcastInDim S262144 ![] bcast_S_S262144 main_c
  let main_v3 : IVec S262144 1 := cmpi .sge main_v1 main_v2
  main_v3
-- ==== Kernel.lean ====
abbrev S2x262144x32 : Shape := ⟨3, ![2, 262144, 32]⟩
abbrev S2x262144 : Shape := ⟨2, ![2, 262144]⟩
abbrev S1x262144x32 : Shape := ⟨3, ![1, 262144, 32]⟩
abbrev S262144x32 : Shape := ⟨2, ![262144, 32]⟩
abbrev S32x262144 : Shape := ⟨2, ![32, 262144]⟩
abbrev S8x1x65536 : Shape := ⟨3, ![8, 1, 65536]⟩
abbrev S1x1 : Shape := ⟨2, ![1, 1]⟩
abbrev S32x65536 : Shape := ⟨2, ![32, 65536]⟩
abbrev S1x1x65536 : Shape := ⟨3, ![1, 1, 65536]⟩
abbrev S32x32 : Shape := ⟨2, ![32, 32]⟩
abbrev S32x8 : Shape := ⟨2, ![32, 8]⟩
abbrev S4x32x65536 : Shape := ⟨3, ![4, 32, 65536]⟩
abbrev S1x65536 : Shape := ⟨2, ![1, 65536]⟩
abbrev S32x1 : Shape := ⟨2, ![32, 1]⟩
abbrev S1x32x65536 : Shape := ⟨3, ![1, 32, 65536]⟩
abbrev S8x65536 : Shape := ⟨2, ![8, 65536]⟩
abbrev S32 : Shape := ⟨1, ![32]⟩
abbrev S65536 : Shape := ⟨1, ![65536]⟩
abbrev S8x32 : Shape := ⟨2, ![8, 32]⟩
abbrev S1x32x1 : Shape := ⟨3, ![1, 32, 1]⟩
abbrev S1 : Shape := ⟨1, ![1]⟩
abbrev S1x1x1 : Shape := ⟨3, ![1, 1, 1]⟩
abbrev S1x32 : Shape := ⟨2, ![1, 32]⟩
abbrev S1x32x32 : Shape := ⟨3, ![1, 32, 32]⟩
abbrev S1x1x32 : Shape := ⟨3, ![1, 1, 32]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S2x262144x32, .f32⟩
  | .hbm, ⟨1, _⟩ => ⟨S2x262144, .i32⟩
  | .hbm, ⟨2, _⟩ => ⟨S1x262144x32, .f32⟩
  | .hbm, ⟨3, _⟩ => ⟨S262144x32, .f32⟩
  | .hbm, ⟨4, _⟩ => ⟨S262144x32, .bf16⟩
  | .hbm, ⟨5, _⟩ => ⟨S32x262144, .bf16⟩
  | .hbm, ⟨6, _⟩ => ⟨S8x1x65536, .i32⟩
  | .hbm, ⟨7, _⟩ => ⟨S1x1, .f32⟩
  | .hbm, ⟨8, _⟩ => ⟨S_, .f32⟩
  | .local _ .vmem, ⟨0, _⟩ => ⟨S32x65536, .bf16⟩
  | .local _ .vmem, ⟨1, _⟩ => ⟨S32x65536, .bf16⟩
  | .local _ .vmem, ⟨2, _⟩ => ⟨S1x1x65536, .i32⟩
  | .local _ .vmem, ⟨3, _⟩ => ⟨S1x1x65536, .i32⟩
  | .local _ .vmem, ⟨4, _⟩ => ⟨S1x1, .f32⟩
  | .local _ .vmem, ⟨5, _⟩ => ⟨S32x32, .f32⟩
  | .local _ .vmem, ⟨6, _⟩ => ⟨S32x8, .f32⟩
  | .local _ .vmem, ⟨7, _⟩ => ⟨S32x8, .f32⟩
  | .local _ .vmem, ⟨8, _⟩ => ⟨S32x32, .f32⟩
  | .local _ .vmem, ⟨9, _⟩ => ⟨S32x32, .bf16⟩
  | .local _ .vmem, ⟨10, _⟩ => ⟨S4x32x65536, .bf16⟩
  | _, _ => ⟨S2x262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32_3 : BitVec 32 := 4#32
  let v13 : BitVec 1 := Scalar.cmpi .slt arg0 c4_i32_3
  let v14 : BitVec 32 := Scalar.extui v13
  let c0_i32_4 : BitVec 32 := 0#32
  let v15 : BitVec 1 := Scalar.cmpi .ne v14 c0_i32_4
  v15

def k0_off1 (i : grid0.Coords) : Fin 3 → Nat :=
  let arg0 : BitVec 32 := BitVec.ofNat 32 (i 0).val
  let c4_i32 : BitVec 32 := 4#32
  let v0 : BitVec 32 := Scalar.remsi arg0 c4_i32
  let v27 : Index := Scalar.indexCast v0
  let c0_11 : Index := 0#32
  let c0_12 : Index := 0#32
  ![v27.toNat, 0, 0]
def k0_cond4 (i : grid0.Coords) : BitVec 1 :=
  let arg0 : BitVec 32 := BitVec.ofNat 32 (i 0).val
  let c4_i32_6 : BitVec 32 := 4#32
  let v19 : BitVec 1 := Scalar.cmpi .sge arg0 c4_i32_6
  let v20 : BitVec 32 := Scalar.extui v19
  let c0_i32_7 : BitVec 32 := 0#32
  let v21 : BitVec 1 := Scalar.cmpi .ne v20 c0_i32_7
  v21

def k0_off2 (i : grid0.Coords) : Fin 3 → Nat :=
  let arg0 : BitVec 32 := BitVec.ofNat 32 (i 0).val
  let c4_i32 : BitVec 32 := 4#32
  let v0 : BitVec 32 := Scalar.remsi arg0 c4_i32
  let v25 : Index := Scalar.indexCast v0
  let c0_9 : Index := 0#32
  let c0_10 : Index := 0#32
  ![v25.toNat, 0, 0]
def k0_cond5 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c4_i32 : BitVec 32 := 4#32
  let v0 : BitVec 1 := Scalar.cmpi .slt arg0 c4_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_1 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2x262144x32 : Shape := ⟨3, ![2, 262144, 32]⟩
abbrev S2x262144 : Shape := ⟨2, ![2, 262144]⟩
abbrev S1x262144x32 : Shape := ⟨3, ![1, 262144, 32]⟩
abbrev S262144x32 : Shape := ⟨2, ![262144, 32]⟩
abbrev S1x262144 : Shape := ⟨2, ![1, 262144]⟩
abbrev S262144 : Shape := ⟨1, ![262144]⟩
abbrev S_ : Shape := ⟨0, ![]⟩
abbrev S32 : Shape := ⟨1, ![32]⟩
abbrev S262144x1 : Shape := ⟨2, ![262144, 1]⟩
abbrev S32x32 : Shape := ⟨2, ![32, 32]⟩
abbrev S32x1 : Shape := ⟨2, ![32, 1]⟩
abbrev S32x1x32 : Shape := ⟨3, ![32, 1, 32]⟩
abbrev S1x32x32 : Shape := ⟨3, ![1, 32, 32]⟩
abbrev S32x32x32 : Shape := ⟨3, ![32, 32, 32]⟩

abbrev nBuf : Space → Nat
  | .hbm => 120
  | .vmem => 0
  | .smem => 0
  | _ => 0

abbrev bufTy : (tb : Table) → Fin (tcTables nBuf tb) → BufTy
  | .hbm, ⟨0, _⟩ => ⟨S2x262144x32, .f32⟩
  | .hbm, ⟨1, _⟩ => ⟨S2x262144, .i32⟩
  | .hbm, ⟨2, _⟩ => ⟨S1x262144x32, .f32⟩
  | .hbm, ⟨3, _⟩ => ⟨S262144x32, .f32⟩
  | .hbm, ⟨4, _⟩ => ⟨S1x262144, .i32⟩
  | .hbm, ⟨5, _⟩ => ⟨S262144, .i32⟩
  | .hbm, ⟨6, _⟩ => ⟨S_, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S_, .i32⟩
  | .hbm, ⟨21, _⟩ => ⟨S262144, .i32⟩
  | .hbm, ⟨22, _⟩ => ⟨S32, .i32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32x32, .f32⟩
  | .hbm, ⟨29, _⟩ => ⟨S262144x1, .i32⟩
  | .hbm, ⟨30, _⟩ => ⟨S32x32, .f32⟩
  | .hbm, ⟨31, _⟩ => ⟨S32x1, .f32⟩
  | .hbm, ⟨32, _⟩ => ⟨S32x32, .f32⟩
  | .hbm, ⟨33, _⟩ => ⟨S32x32, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x32, .f32⟩
  | .hbm, ⟨43, _⟩ => ⟨S262144x32, .f32⟩
  | .hbm, ⟨44, _⟩ => ⟨S262144x32, .f32⟩
  | .hbm, ⟨45, _⟩ => ⟨S_, .f32⟩
  | .hbm, ⟨46, _⟩ => ⟨S262144, .f32⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S262144, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S262144, .f32⟩
  | .hbm, ⟨56, _⟩ => ⟨S262144, .f32⟩
  | .hbm, ⟨57, _⟩ => ⟨S262144, .f32⟩
  | .hbm, ⟨58, _⟩ => ⟨S_, .f32⟩
  | .hbm, ⟨59, _⟩ => ⟨S32, .f32⟩
  | .hbm, ⟨60, _⟩ => ⟨S262144x1, .i32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S32x1x32, .f32⟩
  | .hbm, ⟨68, _⟩ => ⟨S1x32x32, .f32⟩
  | .hbm, ⟨69, _⟩ => ⟨S32x32x32, .f32⟩
  | .hbm, ⟨70, _⟩ => ⟨S32x32x32, .f32⟩
  | .hbm, ⟨71, _⟩ => ⟨S32x32x32, .f32⟩
  | .hbm, ⟨72, _⟩ => ⟨S32x32x32, .f32⟩
  | .hbm, ⟨73, _⟩ => ⟨S_, .f32⟩
  | .hbm, ⟨74, _⟩ => ⟨S32x32, .f32⟩
  | .hbm, ⟨75, _⟩ => ⟨S_, .f32⟩
  | .hbm, ⟨76, _⟩ => ⟨S32x32, .f32⟩
  | .hbm, ⟨77, _⟩ => ⟨S32x32, .f32⟩
  | .hbm, ⟨78, _⟩ => ⟨S32x32, .f32⟩
  | .hbm, ⟨79, _⟩ => ⟨S32x32, .i32⟩
  | .hbm, ⟨80, _⟩ => ⟨S32x32, .i32⟩
  | .hbm, ⟨81, _⟩ => ⟨S_, .i32⟩
  | .hbm, ⟨82, _⟩ => ⟨S32x32, .i32⟩
  | .hbm, ⟨83, _⟩ => ⟨S32x32, .i32⟩
  | .hbm, ⟨84, _⟩ => ⟨S32x32, .i1⟩
  | .hbm, ⟨85, _⟩ => ⟨S32x32, .f32⟩
  | .hbm, ⟨86, _⟩ => ⟨S_, .f32⟩
  | .hbm, ⟨87, _⟩ => ⟨S32x32, .f32⟩
  | .hbm, ⟨88, _⟩ => ⟨S32x32, .f32⟩
  | .hbm, ⟨89, _⟩ => ⟨S_, .f32⟩
  | .hbm, ⟨90, _⟩ => ⟨S32x32, .f32⟩
  | .hbm, ⟨91, _⟩ => ⟨S32x32, .f32⟩
  | .hbm, ⟨92, _⟩ => ⟨S_, .f32⟩
  | .hbm, ⟨93, _⟩ => ⟨S32x32, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S32x32, .f32⟩
  | .hbm, ⟨102, _⟩ => ⟨S_, .f32⟩
  | .hbm, ⟨103, _⟩ => ⟨S32, .f32⟩
  | .hbm, ⟨104, _⟩ => ⟨S_, .f32⟩
  | .hbm, ⟨105, _⟩ => ⟨S32, .f32⟩
  | .hbm, ⟨106, _⟩ => ⟨S32, .f32⟩
  | .hbm, ⟨107, _⟩ => ⟨S32, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S2x262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_20 : Ref sig .tc := ⟨.hbm, 97, rfl⟩
abbrev main_v71 : Ref sig .tc := ⟨.hbm, 98, rfl⟩
abbrev main_cst_21 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_cst_23 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_24 : Ref sig .tc := ⟨.hbm, 108, rfl⟩
abbrev main_v78 : Ref sig .tc := ⟨.hbm, 109, rfl⟩
abbrev main_cst_25 : Ref sig .tc := ⟨.hbm, 110, rfl⟩
abbrev main_v79 : Ref sig .tc := ⟨.hbm, 111, rfl⟩
abbrev main_cst_26 : Ref sig .tc := ⟨.hbm, 112, rfl⟩
abbrev main_v80 : Ref sig .tc := ⟨.hbm, 113, rfl⟩
abbrev main_cst_27 : Ref sig .tc := ⟨.hbm, 114, rfl⟩
abbrev main_v81 : Ref sig .tc := ⟨.hbm, 115, rfl⟩
abbrev main_v82 : Ref sig .tc := ⟨.hbm, 116, rfl⟩
abbrev main_cst_28 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Proof.Loss.State.lean ====
/- What one grid point does to the kernel's scratch buffers, as functions of their contents, for any float type.
   The grid has eight points: points 0 to 3 read one block of the points each, add up the sums and the sizes of the
   clusters and keep the block; point 3 then forms the means; points 4 to 7 read the kept blocks again and add up the
   hinged squared distances; point 7 then forms the loss. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Loss

open Idealize.ShloMosaic Cert.KernelIdeal.Gen

/-- The contents of the six scratch buffers. -/
@[ext] structure Scr (F : FTy → Type) where
  /-- Row k: the sum of the points of cluster k seen so far. -/
  sums : Vec F S32x32 .f32
  /-- Row k, in each of eight equal columns: how many points of cluster k were seen so far. -/
  cnts : Vec F S32x8 .f32
  /-- Row k, in each of eight equal columns: the hinged squared distances of cluster k seen so far. -/
  hinge : Vec F S32x8 .f32
  /-- Row k: the mean of cluster k. -/
  means : Vec F S32x32 .f32
  /-- The means once more, in the narrow format. -/
  means16 : Vec F S32x32 .bf16
  /-- The four blocks of points. -/
  cache : Vec F S4x32x65536 .bf16

variable {F : FTy → Type} [FloatOps F]

/-- The first of the eight equal columns. -/
def col0 (v : Vec F S32x8 .f32) : Vec F S32x1 .f32 :=
  VecWindow.window v ![0, 0] S32x1.size inb_S32x8_S32x1_0_0

/-- Each of the four blocks lies inside the buffer that keeps them. -/
theorem slab_inb (j : Fin 4) : ∀ a, (![j.val, 0, 0] : Fin 3 → ℕ) a + S1x32x65536.size a ≤ S4x32x65536.size a := by
  revert j; decide +kernel

/-- Block j of the four kept blocks. -/
def slab (v : Vec F S4x32x65536 .bf16) (j : Fin 4) : Vec F S1x32x65536 .bf16 :=
  VecWindow.window v ![j.val, 0, 0] S1x32x65536.size (slab_inb j)

/-- The four blocks, block j replaced. -/
def putSlab (v : Vec F S4x32x65536 .bf16) (j : Fin 4) (w : Vec F S1x32x65536 .bf16) : Vec F S4x32x65536 .bf16 :=
  VecWindow.put v ![j.val, 0, 0] S1x32x65536.size w

/-- The block just put is read back. -/
theorem slab_putSlab (v : Vec F S4x32x65536 .bf16) (j : Fin 4) (w) : slab (putSlab v j w) j = w :=
  VecWindow.window_put_same _ _ _ _ _

/-- A block other than the one just put reads what it held. -/
theorem slab_putSlab_ne (v : Vec F S4x32x65536 .bf16) {j j' : Fin 4} (h : j' ≠ j) (w) : slab (putSlab v j w) j' = slab v j' :=
  VecWindow.window_put_of_disjoint _ _ _ _ _ _ _ (0 : Fin 3) (by
    have : j'.val ≠ j.val := fun e => h (Fin.ext e)
    show j'.val + 1 ≤ j.val ∨ j.val + 1 ≤ j'.val
    omega)

/-- Sums, sizes and hinges set to zero. -/
def Scr.init (σ : Scr F) : Scr F := { σ with sums := k0_pay1, cnts := k0_pay2, hinge := k0_pay3 }

/-- A block x of points with labels t added to sums and sizes, and kept as block j. -/
def Scr.pass1 (j : Fin 4) (x : Vec F S32x65536 .bf16) (t : Vec F S1x1x65536 .i32) (σ : Scr F) : Scr F :=
  { σ with sums := k0_pay8 t x σ.sums, cnts := k0_pay9 t σ.cnts, cache := putSlab σ.cache j (k0_pay7 x) }

/-- The means formed from sums and sizes. -/
def Scr.mean (σ : Scr F) : Scr F :=
  { σ with means := k0_pay11 (col0 σ.cnts) σ.sums, means16 := k0_pay12 (col0 σ.cnts) σ.sums }

/-- The kept block j with labels t added to the hinges. -/
def Scr.pass2 (j : Fin 4) (t : Vec F S1x1x65536 .i32) (σ : Scr F) : Scr F :=
  { σ with hinge := k0_pay13 t (k0_pay15 (F := F) (k0_pay4 (F := F) t) (slab σ.cache j) σ.means σ.means16) σ.hinge }

/-- The loss, from sizes, hinges and means. -/
def Scr.total (σ : Scr F) : Vec F S1x1 .f32 :=
  k0_pay14 (k0_pay16 (col0 σ.cnts) (col0 σ.hinge)) (k0_pay19 σ.means) (k0_pay20 σ.means)

/-- The block number of grid point n. -/
def blkOf (n : ℕ) : Fin 4 := ⟨n % 4, Nat.mod_lt _ (by decide)⟩

/-- What grid point n does to the scratch buffers. -/
def Scr.step (n : ℕ) (x : Vec F S32x65536 .bf16) (t : Vec F S1x1x65536 .i32) (σ : Scr F) : Scr F :=
  if n < 4 then
    (if n = 3 then Scr.mean else id) (Scr.pass1 (blkOf n) x t ((if n = 0 then Scr.init else id) σ))
  else Scr.pass2 (blkOf n) t σ

/-- The scratch buffers before grid point n, of a launch that found them at σ: block b of the points is `X b`, and the
    labels grid point n reads are `T n`. -/
def Scr.run (X : ℕ → Vec F S32x65536 .bf16) (T : ℕ → Vec F S1x1x65536 .i32) (σ : Scr F) : ℕ → Scr F
  | 0 => σ
  | n + 1 => Scr.step n (X n) (T n) (Scr.run X T σ n)

/-- The sums after the first n blocks. -/
def sumsAt (X : ℕ → Vec F S32x65536 .bf16) (T : ℕ → Vec F S1x1x65536 .i32) : ℕ → Vec F S32x32 .f32
  | 0 => k0_pay1
  | n + 1 => k0_pay8 (T n) (X n) (sumsAt X T n)

/-- The sizes after the first n blocks. -/
def cntsAt (T : ℕ → Vec F S1x1x65536 .i32) : ℕ → Vec F S32x8 .f32
  | 0 => k0_pay2
  | n + 1 => k0_pay9 (T n) (cntsAt T n)

/-- The means. -/
def meansOf (X : ℕ → Vec F S32x65536 .bf16) (T : ℕ → Vec F S1x1x65536 .i32) : Vec F S32x32 .f32 :=
  k0_pay11 (col0 (cntsAt T 4)) (sumsAt X T 4)

/-- The means in the narrow format. -/
def means16Of (X : ℕ → Vec F S32x65536 .bf16) (T : ℕ → Vec F S1x1x65536 .i32) : Vec F S32x32 .bf16 :=
  k0_pay12 (col0 (cntsAt T 4)) (sumsAt X T 4)

/-- The hinges after the first n blocks of the second pass. -/
def hingeAt (X : ℕ → Vec F S32x65536 .bf16) (T : ℕ → Vec F S1x1x65536 .i32) : ℕ → Vec F S32x8 .f32
  | 0 => k0_pay3
  | n + 1 => k0_pay13 (T (4 + n)) (k0_pay15 (F := F) (k0_pay4 (F := F) (T (4 + n))) (k0_pay7 (X n)) (meansOf X T) (means16Of X T)) (hingeAt X T n)

/-- The loss, from the blocks alone. -/
def lossOf (X : ℕ → Vec F S32x65536 .bf16) (T : ℕ → Vec F S1x1x65536 .i32) : Vec F S1x1 .f32 :=
  k0_pay14 (k0_pay16 (col0 (cntsAt T 4)) (col0 (hingeAt X T 4))) (k0_pay19 (meansOf X T)) (k0_pay20 (meansOf X T))

/-- Whatever the scratch buffers held at launch, the loss formed at the last point is the one of the blocks. -/
theorem total_run (X : ℕ → Vec F S32x65536 .bf16) (T : ℕ → Vec F S1x1x65536 .i32) (σ : Scr F) :
    (Scr.run X T σ 8).total = lossOf X T := by
  have s0 : ∀ b : Fin 4, slab (Scr.run X T σ 4).cache b = k0_pay7 (X b.val) := by
    intro b
    fin_cases b <;>
      simp [Scr.run, Scr.step, Scr.init, Scr.pass1, Scr.mean, blkOf, slab_putSlab, slab_putSlab_ne]
  have c4 : (Scr.run X T σ 4).cnts = cntsAt T 4 := by
    simp [Scr.run, Scr.step, Scr.init, Scr.pass1, Scr.mean, cntsAt]
  have h4 : (Scr.run X T σ 4).hinge = k0_pay3 := by
    simp [Scr.run, Scr.step, Scr.init, Scr.pass1, Scr.mean]
  have m4 : (Scr.run X T σ 4).means = meansOf X T := by
    simp [Scr.run, Scr.step, Scr.init, Scr.pass1, Scr.mean, meansOf, cntsAt, sumsAt]
  have n4 : (Scr.run X T σ 4).means16 = means16Of X T := by
    simp [Scr.run, Scr.step, Scr.init, Scr.pass1, Scr.mean, means16Of, cntsAt, sumsAt]
  have e8 : Scr.run X T σ 8 = Scr.pass2 (blkOf 7) (T 7) (Scr.pass2 (blkOf 6) (T 6) (Scr.pass2 (blkOf 5) (T 5)
      (Scr.pass2 (blkOf 4) (T 4) (Scr.run X T σ 4)))) := by
    rw [Scr.run, Scr.run, Scr.run, Scr.run]
    simp only [Scr.step]
    simp
  rw [e8]
  generalize Scr.run X T σ 4 = σ4 at s0 c4 h4 m4 n4
  have b4 : blkOf 4 = 0 := rfl
  have b5 : blkOf 5 = 1 := rfl
  have b6 : blkOf 6 = 2 := rfl
  have b7 : blkOf 7 = 3 := rfl
  simp only [Scr.total, Scr.pass2, b4, b5, b6, b7, s0, c4, h4, m4, n4, lossOf, hingeAt]
  rfl

end Cert.KernelIdeal.Loss

end
-- ==== Proof.Loss.Body.lean ====
/- What the body does at each kind of grid point: from whole buffers holding given contents it runs to the same
   buffers holding what `Scr.step` says, and at the last point the loss. -/
module

public import proofs.«01_k».proof.Proof.Loss.State
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Loss

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional is taken: the grid point is 0. -/
abbrev isFirst (i : grid0.Coords) : Prop :=
  (Scalar.cmpi .ne (Scalar.extui (Scalar.cmpi .eq (BitVec.ofNat 32 (i 0).val) 0#32)) 0#32 : BitVec 1) = 1#1

/-- The second conditional is taken: the grid point is below 4. -/
abbrev isPass1 (i : grid0.Coords) : Prop := k0_cond2 i = 1#1

/-- The third conditional is taken: the grid point is 3. -/
abbrev isMean (i : grid0.Coords) : Prop :=
  (Scalar.cmpi .ne (Scalar.extui (Scalar.cmpi .eq (BitVec.ofNat 32 (i 0).val) 3#32)) 0#32 : BitVec 1) = 1#1

/-- The fourth conditional is taken: the grid point is at least 4. -/
abbrev isPass2 (i : grid0.Coords) : Prop := k0_cond4 i = 1#1

/-- The fifth conditional is taken: the grid point is 7. -/
abbrev isLast (i : grid0.Coords) : Prop := k0_cond5 i = 1#1

/-- The block number of a grid point, from its coordinate. -/
abbrev blk (i : grid0.Coords) : Fin 4 := blkOf (i 0).val

/-- The six scratch buffers hold σ. -/
def held (c : Dev nD) (arg4 : Memref sig .tc .vmem S32x32 .f32) (arg5 arg6 : Memref sig .tc .vmem S32x8 .f32)
    (arg7 : Memref sig .tc .vmem S32x32 .f32) (arg8 : Memref sig .tc .vmem S32x32 .bf16)
    (arg9 : Memref sig .tc .vmem S4x32x65536 .bf16) (σ : Scr F) : sProp 𝕄 :=
  iprop(owns (c : Thread nD τ) arg4 fullShare σ.sums ∗ owns (c : Thread nD τ) arg5 fullShare σ.cnts ∗
    owns (c : Thread nD τ) arg6 fullShare σ.hinge ∗ owns (c : Thread nD τ) arg7 fullShare σ.means ∗
    owns (c : Thread nD τ) arg8 fullShare σ.means16 ∗ owns (c : Thread nD τ) arg9 fullShare σ.cache)

/-- A load of part of a whole buffer after a store of all of it reads that part of the stored value. -/
theorem readCov_part {Val : EltTy → Type} [∀ e, Nonempty (Val e)] {sp : Space} {S : Shape} {e : EltTy} (v : View sig .tc sp S e)
    {off off' size : Fin S.rank → ℕ} (inb : ∀ a, off a + size a ≤ S.size a) (inb' : ∀ a, off' a + S.size a ≤ S.size a)
    (w : (Rect.unit off' S.size inb').shape.Idx → Val e) (L : List (View.Piece Val S e)) :
    v.readCov (⟨Rect.unit off' S.size inb', w⟩ :: L) (Rect.unit off size inb).toLoadRect = VecWindow.window w off size inb :=
  (View.readAt_unit v _ inb rfl inb).trans (by rw [View.read_writes_full])

theorem readAt_part {Val : EltTy → Type} {sp : Space} {S : Shape} {e : EltTy} (v : View sig .tc sp S e) (f : v.ty.Contents Val)
    {off off' size : Fin S.rank → ℕ} (inb : ∀ a, off a + size a ≤ S.size a) (inb' : ∀ a, off' a + S.size a ≤ S.size a)
    (w : (Rect.unit off' S.size inb').shape.Idx → Val e) (L : List (View.Piece Val S e)) :
    v.readAt Val (Rect.unit off size inb).toLoadRect (v.writes Val f (⟨Rect.unit off' S.size inb', w⟩ :: L)) = VecWindow.window w off size inb :=
  (View.readAt_unit v _ inb rfl inb).trans (by rw [View.read_writes_full])

/-- A load of one kept block reads it. -/
theorem read_slab (v : View sig .tc .vmem S4x32x65536 .bf16) (f : v.ty.Contents (Elt F)) (i : grid0.Coords) (inb) :
    v.readAt (Elt F) (Rect.unit (s := S4x32x65536) (k0_off2 i) S1x32x65536.size inb).toLoadRect f = slab (v.read (Elt F) f) (blk i) :=
  View.readAt_unit v f inb (k0_off2_eq i) (slab_inb (blk i))

/-- A load of the first column reads it. -/
theorem read_col0 (v : View sig .tc .vmem S32x8 .f32) (f : v.ty.Contents (Elt F)) (inb) :
    v.readAt (Elt F) (Rect.unit (s := S32x8) ![0, 0] S32x1.size inb).toLoadRect f = col0 (v.read (Elt F) f) :=
  View.readAt_unit v f inb rfl _

/-- The loads of the second pass, on whole buffers, read their contents. -/
theorem hinge_loads {arg2 : Memref sig .tc .vmem S1x1x65536 .i32} (harg2 : arg2.IsWhole) {arg6 : Memref sig .tc .vmem S32x8 .f32} (harg6 : arg6.IsWhole)
    {arg7 : Memref sig .tc .vmem S32x32 .f32} (harg7 : arg7.IsWhole) {arg8 : Memref sig .tc .vmem S32x32 .bf16} (harg8 : arg8.IsWhole)
    {arg9 : Memref sig .tc .vmem S4x32x65536 .bf16} (harg9 : arg9.IsWhole) (i : grid0.Coords) (inb)
    (t : Vec F S1x1x65536 .i32) (h : Vec F S32x8 .f32) (m : Vec F S32x32 .f32) (m' : Vec F S32x32 .bf16) (z : Vec F S4x32x65536 .bf16) :
    k0_pay13 (arg2.view.readAt (Elt F) (Rect.unit (s := S1x1x65536) ![0, 0, 0] S1x1x65536.size inb_S1x1x65536_S1x1x65536_0_0_0).toLoadRect (harg2.unread t))
      (k0_pay15 (F := F) (k0_pay4 (F := F) (arg2.view.readAt (Elt F) (Rect.unit (s := S1x1x65536) ![0, 0, 0] S1x1x65536.size inb_S1x1x65536_S1x1x65536_0_0_0).toLoadRect (harg2.unread t)))
        (arg9.view.readAt (Elt F) (Rect.unit (s := S4x32x65536) (k0_off2 i) S1x32x65536.size inb).toLoadRect (harg9.unread z))
        (arg7.view.readAt (Elt F) (Rect.unit (s := S32x32) ![0, 0] S32x32.size inb_S32x32_S32x32_0_0).toLoadRect (harg7.unread m))
        (arg8.view.readAt (Elt F) (Rect.unit (s := S32x32) ![0, 0] S32x32.size inb_S32x32_S32x32_0_0).toLoadRect (harg8.unread m')))
      (arg6.view.readAt (Elt F) (Rect.unit (s := S32x8) ![0, 0] S32x8.size inb_S32x8_S32x8_0_0).toLoadRect (harg6.unread h))
    = k0_pay13 t (k0_pay15 (F := F) (k0_pay4 (F := F) t) (slab z (blk i)) m m') h := by
  (repeat first | rw [View.readAt_full] | rw [read_slab] | rw [read_col0] | rw [readCov_part] | rw [Memref.IsWhole.read_unread])

/-- The loads that form the loss, on whole buffers, read their contents. -/
theorem loss_loads {arg5 : Memref sig .tc .vmem S32x8 .f32} (harg5 : arg5.IsWhole) (arg6 : Memref sig .tc .vmem S32x8 .f32)
    {arg7 : Memref sig .tc .vmem S32x32 .f32} (harg7 : arg7.IsWhole) (n w w' : Vec F S32x8 .f32) (m : Vec F S32x32 .f32) (hw : w = w') :
    k0_pay14 (k0_pay16 (arg5.view.readAt (Elt F) (Rect.unit (s := S32x8) ![0, 0] S32x1.size inb_S32x8_S32x1_0_0).toLoadRect (harg5.unread n))
        (arg6.view.readCov [⟨Rect.unit (s := S32x8) ![0, 0] S32x8.size inb_S32x8_S32x8_0_0, w⟩] (Rect.unit (s := S32x8) ![0, 0] S32x1.size inb_S32x8_S32x1_0_0).toLoadRect))
      (k0_pay19 (arg7.view.readAt (Elt F) (Rect.unit (s := S32x32) ![0, 0] S32x32.size inb_S32x32_S32x32_0_0).toLoadRect (harg7.unread m)))
      (k0_pay20 (arg7.view.readAt (Elt F) (Rect.unit (s := S32x32) ![0, 0] S32x32.size inb_S32x32_S32x32_0_0).toLoadRect (harg7.unread m)))
    = k0_pay14 (k0_pay16 (col0 n) (col0 w')) (k0_pay19 m) (k0_pay20 m) := by
  subst hw
  (repeat first | rw [View.readAt_full] | rw [read_slab] | rw [read_col0] | rw [readCov_part] | rw [Memref.IsWhole.read_unread])
  rfl

set_option maxHeartbeats 1600000 in
/-- Grid point 0: everything set to zero, then the first block added. -/
theorem body_first (c : Dev nD) (i : grid0.Coords) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (hc0 : isFirst i) (hc1 : isPass1 i) (hc2 : ¬ isMean i) (hc3 : ¬ isPass2 i) (hc4 : ¬ isLast i) (x : Vec F S32x65536 .bf16) (t : Vec F S1x1x65536 .i32) (o : Vec F S1x1 .f32) (σ : Scr F) (E : Set ℕ) (K : PUnit → sProp 𝕄) :
    iprop(owns (c : Thread nD τ) arg1 fullShare x ∗ owns (c : Thread nD τ) arg2 fullShare t ∗ owns (c : Thread nD τ) arg3 fullShare o ∗ held c arg4 arg5 arg6 arg7 arg8 arg9 σ ∗
        (iprop(owns (c : Thread nD τ) arg1 fullShare x ∗ owns (c : Thread nD τ) arg2 fullShare t ∗ owns (c : Thread nD τ) arg3 fullShare o ∗ held c arg4 arg5 arg6 arg7 arg8 arg9 (Scr.pass1 (blk i) x t σ.init)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  obtain ⟨s, n, h, m, m', z⟩ := σ
  simp only [cc0__body_eq_skeleton]; unfold cc0__body_skel
  unfold held owns
  iintro ⟨⟨%f0, %hf0, H1⟩, ⟨%f1, %hf1, H2⟩, ⟨%f2, %hf2, H3⟩, ⟨⟨%fs0, %hfs0, H4⟩, ⟨%fs1, %hfs1, H5⟩, ⟨%fs2, %hfs2, H6⟩, ⟨%fs3, %hfs3, H7⟩, ⟨%fs4, %hfs4, H8⟩, ⟨%fs5, %hfs5, H9⟩⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  obtain rfl := harg7.eq_unread hfs3; obtain rfl := harg8.eq_unread hfs4; obtain rfl := harg9.eq_unread hfs5
  sl_exec (disch := first | sl_exact hc0 | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [View.read_writes_full]
    delta body_first.sl.v31 body_first.sl.H4_1
    try (repeat first | rw [View.readAt_full] | rw [View.readCov_full] | rw [View.readAt_writes_full] | rw [read_slab] | rw [read_col0] | rw [readCov_part] | rw [readAt_part] | rw [Memref.IsWhole.read_unread])
    try rfl
  isplitl [H5]
  · iexists _; isplitr; swap; · iexact H5
    ipureintro
    rw [View.read_writes_full]
    delta body_first.sl.v37 body_first.sl.H5_1
    try (repeat first | rw [View.readAt_full] | rw [View.readCov_full] | rw [View.readAt_writes_full] | rw [read_slab] | rw [read_col0] | rw [readCov_part] | rw [readAt_part] | rw [Memref.IsWhole.read_unread])
    try rfl
  isplitl [H6]
  · iexists _; isplitr; swap; · iexact H6
    ipureintro
    rw [View.read_writes_full]
    try (repeat first | rw [View.readAt_full] | rw [View.readCov_full] | rw [View.readAt_writes_full] | rw [read_slab] | rw [read_col0] | rw [readCov_part] | rw [readAt_part] | rw [Memref.IsWhole.read_unread])
    try rfl
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  refine (View.read_writes_cons_put _ _ _ _ _ (k0_off1_eq i)).trans ?_
  try (repeat first | rw [View.readAt_full] | rw [View.readCov_full] | rw [View.readAt_writes_full] | rw [read_slab] | rw [read_col0] | rw [readCov_part] | rw [readAt_part] | rw [Memref.IsWhole.read_unread])
  exact congrArg (fun a => VecWindow.put a _ _ _) (harg9.read_unread _)

set_option maxHeartbeats 1600000 in
/-- Grid points 1 and 2: one block added. -/
theorem body_add (c : Dev nD) (i : grid0.Coords) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (hc0 : ¬ isFirst i) (hc1 : isPass1 i) (hc2 : ¬ isMean i) (hc3 : ¬ isPass2 i) (hc4 : ¬ isLast i) (x : Vec F S32x65536 .bf16) (t : Vec F S1x1x65536 .i32) (o : Vec F S1x1 .f32) (σ : Scr F) (E : Set ℕ) (K : PUnit → sProp 𝕄) :
    iprop(owns (c : Thread nD τ) arg1 fullShare x ∗ owns (c : Thread nD τ) arg2 fullShare t ∗ owns (c : Thread nD τ) arg3 fullShare o ∗ held c arg4 arg5 arg6 arg7 arg8 arg9 σ ∗
        (iprop(owns (c : Thread nD τ) arg1 fullShare x ∗ owns (c : Thread nD τ) arg2 fullShare t ∗ owns (c : Thread nD τ) arg3 fullShare o ∗ held c arg4 arg5 arg6 arg7 arg8 arg9 (Scr.pass1 (blk i) x t σ)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  obtain ⟨s, n, h, m, m', z⟩ := σ
  simp only [cc0__body_eq_skeleton]; unfold cc0__body_skel
  unfold held owns
  iintro ⟨⟨%f0, %hf0, H1⟩, ⟨%f1, %hf1, H2⟩, ⟨%f2, %hf2, H3⟩, ⟨⟨%fs0, %hfs0, H4⟩, ⟨%fs1, %hfs1, H5⟩, ⟨%fs2, %hfs2, H6⟩, ⟨%fs3, %hfs3, H7⟩, ⟨%fs4, %hfs4, H8⟩, ⟨%fs5, %hfs5, H9⟩⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  obtain rfl := harg7.eq_unread hfs3; obtain rfl := harg8.eq_unread hfs4; obtain rfl := harg9.eq_unread hfs5
  sl_exec (disch := first | sl_exact hc0 | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    rw [View.read_writes_full]
    try (repeat first | rw [View.readAt_full] | rw [View.readCov_full] | rw [View.readAt_writes_full] | rw [read_slab] | rw [read_col0] | rw [readCov_part] | rw [readAt_part] | rw [Memref.IsWhole.read_unread])
    try rfl
  isplitl [H5]
  · iexists _; isplitr; swap; · iexact H5
    ipureintro
    rw [View.read_writes_full]
    try (repeat first | rw [View.readAt_full] | rw [View.readCov_full] | rw [View.readAt_writes_full] | rw [read_slab] | rw [read_col0] | rw [readCov_part] | rw [readAt_part] | rw [Memref.IsWhole.read_unread])
    try rfl
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  refine (View.read_writes_cons_put _ _ _ _ _ (k0_off1_eq i)).trans ?_
  try (repeat first | rw [View.readAt_full] | rw [View.readCov_full] | rw [View.readAt_writes_full] | rw [read_slab] | rw [read_col0] | rw [readCov_part] | rw [readAt_part] | rw [Memref.IsWhole.read_unread])
  exact congrArg (fun a => VecWindow.put a _ _ _) (harg9.read_unread _)

set_option maxHeartbeats 1600000 in
/-- Grid point 3: the last block added, then the means formed. -/
theorem body_mean (c : Dev nD) (i : grid0.Coords) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (hc0 : ¬ isFirst i) (hc1 : isPass1 i) (hc2 : isMean i) (hc3 : ¬ isPass2 i) (hc4 : ¬ isLast i) (x : Vec F S32x65536 .bf16) (t : Vec F S1x1x65536 .i32) (o : Vec F S1x1 .f32) (σ : Scr F) (E : Set ℕ) (K : PUnit → sProp 𝕄) :
    iprop(owns (c : Thread nD τ) arg1 fullShare x ∗ owns (c : Thread nD τ) arg2 fullShare t ∗ owns (c : Thread nD τ) arg3 fullShare o ∗ held c arg4 arg5 arg6 arg7 arg8 arg9 σ ∗
        (iprop(owns (c : Thread nD τ) arg1 fullShare x ∗ owns (c : Thread nD τ) arg2 fullShare t ∗ owns (c : Thread nD τ) arg3 fullShare o ∗ held c arg4 arg5 arg6 arg7 arg8 arg9 (Scr.pass1 (blk i) x t σ).mean) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  obtain ⟨s, n, h, m, m', z⟩ := σ
  simp only [cc0__body_eq_skeleton]; unfold cc0__body_skel
  unfold held owns
  iintro ⟨⟨%f0, %hf0, H1⟩, ⟨%f1, %hf1, H2⟩, ⟨%f2, %hf2, H3⟩, ⟨⟨%fs0, %hfs0, H4⟩, ⟨%fs1, %hfs1, H5⟩, ⟨%fs2, %hfs2, H6⟩, ⟨%fs3, %hfs3, H7⟩, ⟨%fs4, %hfs4, H8⟩, ⟨%fs5, %hfs5, H9⟩⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  obtain rfl := harg7.eq_unread hfs3; obtain rfl := harg8.eq_unread hfs4; obtain rfl := harg9.eq_unread hfs5
  sl_exec (disch := first | sl_exact hc0 | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; swap; · iexact H4
    ipureintro
    delta body_mean.sl.H4_1; rw [View.read_writes_full]
    try (repeat first | rw [View.readAt_full] | rw [View.readCov_full] | rw [View.readAt_writes_full] | rw [read_slab] | rw [read_col0] | rw [readCov_part] | rw [readAt_part] | rw [Memref.IsWhole.read_unread])
    try rfl
  isplitl [H5]
  · iexists _; isplitr; swap; · iexact H5
    ipureintro
    delta body_mean.sl.H5_1; rw [View.read_writes_full]
    try (repeat first | rw [View.readAt_full] | rw [View.readCov_full] | rw [View.readAt_writes_full] | rw [read_slab] | rw [read_col0] | rw [readCov_part] | rw [readAt_part] | rw [Memref.IsWhole.read_unread])
    try rfl
  isplitl [H6]
  · iexists _; isplitr; · ipureintro; exact harg6.read_unread _
    iexact H6
  isplitl [H7]
  · iexists _; isplitr; swap; · iexact H7
    ipureintro
    rw [View.read_writes_full]
    delta body_mean.sl.v25 body_mean.sl.v28 body_mean.sl.H5_1 body_mean.sl.H4_1
    try (repeat first | rw [View.readAt_full] | rw [View.readCov_full] | rw [View.readAt_writes_full] | rw [read_slab] | rw [read_col0] | rw [readCov_part] | rw [readAt_part] | rw [Memref.IsWhole.read_unread])
    try rfl
  isplitl [H8]
  · iexists _; isplitr; swap; · iexact H8
    ipureintro
    rw [View.read_writes_full]
    delta body_mean.sl.v25 body_mean.sl.v28 body_mean.sl.H5_1 body_mean.sl.H4_1
    try (repeat first | rw [View.readAt_full] | rw [View.readCov_full] | rw [View.readAt_writes_full] | rw [read_slab] | rw [read_col0] | rw [readCov_part] | rw [readAt_part] | rw [Memref.IsWhole.read_unread])
    try rfl
  iexists _; isplitr; swap; · iexact H9
  ipureintro
  refine (View.read_writes_cons_put _ _ _ _ _ (k0_off1_eq i)).trans ?_
  try (repeat first | rw [View.readAt_full] | rw [View.readCov_full] | rw [View.readAt_writes_full] | rw [read_slab] | rw [read_col0] | rw [readCov_part] | rw [readAt_part] | rw [Memref.IsWhole.read_unread])
  exact congrArg (fun a => VecWindow.put a _ _ _) (harg9.read_unread _)

set_option maxHeartbeats 1600000 in
/-- Grid points 4 to 6: the hinges of one kept block added. -/
theorem body_hinge (c : Dev nD) (i : grid0.Coords) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (hc0 : ¬ isFirst i) (hc1 : ¬ isPass1 i) (hc2 : ¬ isMean i) (hc3 : isPass2 i) (hc4 : ¬ isLast i) (x : Vec F S32x65536 .bf16) (t : Vec F S1x1x65536 .i32) (o : Vec F S1x1 .f32) (σ : Scr F) (E : Set ℕ) (K : PUnit → sProp 𝕄) :
    iprop(owns (c : Thread nD τ) arg1 fullShare x ∗ owns (c : Thread nD τ) arg2 fullShare t ∗ owns (c : Thread nD τ) arg3 fullShare o ∗ held c arg4 arg5 arg6 arg7 arg8 arg9 σ ∗
        (iprop(owns (c : Thread nD τ) arg1 fullShare x ∗ owns (c : Thread nD τ) arg2 fullShare t ∗ owns (c : Thread nD τ) arg3 fullShare o ∗ held c arg4 arg5 arg6 arg7 arg8 arg9 (Scr.pass2 (blk i) t σ)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  obtain ⟨s, n, h, m, m', z⟩ := σ
  simp only [cc0__body_eq_skeleton]; unfold cc0__body_skel
  rw [k0_part1_eq_skeleton, k0_part2_eq_skeleton]
  unfold held owns
  iintro ⟨⟨%f0, %hf0, H1⟩, ⟨%f1, %hf1, H2⟩, ⟨%f2, %hf2, H3⟩, ⟨⟨%fs0, %hfs0, H4⟩, ⟨%fs1, %hfs1, H5⟩, ⟨%fs2, %hfs2, H6⟩, ⟨%fs3, %hfs3, H7⟩, ⟨%fs4, %hfs4, H8⟩, ⟨%fs5, %hfs5, H9⟩⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  obtain rfl := harg7.eq_unread hfs3; obtain rfl := harg8.eq_unread hfs4; obtain rfl := harg9.eq_unread hfs5
  sl_exec (disch := first | sl_exact hc0 | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    rw [View.read_writes_full]; delta body_hinge.sl.r
    exact hinge_loads harg2 harg6 harg7 harg8 harg9 i _ t h m m' z
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

set_option maxHeartbeats 1600000 in
/-- Grid point 7: the hinges of the last block added, then the loss stored. -/
theorem body_last (c : Dev nD) (i : grid0.Coords) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (hc0 : ¬ isFirst i) (hc1 : ¬ isPass1 i) (hc2 : ¬ isMean i) (hc3 : isPass2 i) (hc4 : isLast i) (x : Vec F S32x65536 .bf16) (t : Vec F S1x1x65536 .i32) (o : Vec F S1x1 .f32) (σ : Scr F) (E : Set ℕ) (K : PUnit → sProp 𝕄) :
    iprop(owns (c : Thread nD τ) arg1 fullShare x ∗ owns (c : Thread nD τ) arg2 fullShare t ∗ owns (c : Thread nD τ) arg3 fullShare o ∗ held c arg4 arg5 arg6 arg7 arg8 arg9 σ ∗
        (iprop(owns (c : Thread nD τ) arg1 fullShare x ∗ owns (c : Thread nD τ) arg2 fullShare t ∗ owns (c : Thread nD τ) arg3 fullShare (Scr.pass2 (blk i) t σ).total ∗ held c arg4 arg5 arg6 arg7 arg8 arg9 (Scr.pass2 (blk i) t σ)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  obtain ⟨s, n, h, m, m', z⟩ := σ
  simp only [cc0__body_eq_skeleton]; unfold cc0__body_skel
  rw [k0_part1_eq_skeleton, k0_part2_eq_skeleton]
  unfold held owns
  iintro ⟨⟨%f0, %hf0, H1⟩, ⟨%f1, %hf1, H2⟩, ⟨%f2, %hf2, H3⟩, ⟨⟨%fs0, %hfs0, H4⟩, ⟨%fs1, %hfs1, H5⟩, ⟨%fs2, %hfs2, H6⟩, ⟨%fs3, %hfs3, H7⟩, ⟨%fs4, %hfs4, H8⟩, ⟨%fs5, %hfs5, H9⟩⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  obtain rfl := harg7.eq_unread hfs3; obtain rfl := harg8.eq_unread hfs4; obtain rfl := harg9.eq_unread hfs5
  sl_exec (disch := first | sl_exact hc0 | sl_exact hc1 | sl_exact hc2 | sl_exact hc3 | sl_exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; swap; · iexact H3
    ipureintro
    rw [View.read_writes_full]; delta body_last.sl.r_1 body_last.sl.r_2 body_last.sl.r_3 body_last.sl.v28 body_last.sl.H6_1 body_last.sl.r
    exact loss_loads harg5 arg6 harg7 n _ _ m (hinge_loads harg2 harg6 harg7 harg8 harg9 i _ t h m m' z)
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    delta body_last.sl.H6_1; rw [View.read_writes_full]; delta body_last.sl.r
    exact hinge_loads harg2 harg6 harg7 harg8 harg9 i _ t h m m' z
  isplitl [H7]
  · iexists _; isplitr; · ipureintro; exact harg7.read_unread _
    iexact H7
  isplitl [H8]
  · iexists _; isplitr; · ipureintro; exact harg8.read_unread _
    iexact H8
  iexists _; isplitr; · ipureintro; exact harg9.read_unread _
  iexact H9

end Cert.KernelIdeal.Loss

end
-- ==== Proof.Loss.Run.lean ====
/- The run of the whole kernel, for any float type: every execution terminates, the arguments are unchanged, and the
   array the kernel writes holds the loss of the blocks (`lossOf`). -/
module

public import proofs.«01_k».proof.Proof.Loss.Body
public import Idealize.ShloMosaic.Lib.Pipeline.FrameSuffix
public import Idealize.ShloMosaic.Lib.Claim

@[expose] public section

set_option maxRecDepth 16384

noncomputable section

namespace Cert.KernelIdeal.Loss

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at each grid point -/

/-- The first point, -/
theorem isFirst_iff : ∀ t : Fin cfg0.N, isFirst (grid0.coords t) ↔ t.val = 0 :=
  (by decide +kernel : ∀ t : Fin grid0.N, isFirst (grid0.coords t) ↔ t.val = 0)
/-- the points of the first pass, -/
theorem isPass1_iff : ∀ t : Fin cfg0.N, isPass1 (grid0.coords t) ↔ t.val < 4 :=
  (by decide +kernel : ∀ t : Fin grid0.N, isPass1 (grid0.coords t) ↔ t.val < 4)
/-- the point that forms the means, -/
theorem isMean_iff : ∀ t : Fin cfg0.N, isMean (grid0.coords t) ↔ t.val = 3 :=
  (by decide +kernel : ∀ t : Fin grid0.N, isMean (grid0.coords t) ↔ t.val = 3)
/-- the points of the second pass, -/
theorem isPass2_iff : ∀ t : Fin cfg0.N, isPass2 (grid0.coords t) ↔ 4 ≤ t.val :=
  (by decide +kernel : ∀ t : Fin grid0.N, isPass2 (grid0.coords t) ↔ 4 ≤ t.val)
/-- and the last point, by number. -/
theorem isLast_iff : ∀ t : Fin cfg0.N, isLast (grid0.coords t) ↔ t.val = 7 :=
  (by decide +kernel : ∀ t : Fin grid0.N, isLast (grid0.coords t) ↔ t.val = 7)
/-- The coordinate of a grid point is its number. -/
theorem coords_eq : ∀ t : Fin cfg0.N, (grid0.coords t 0).val = t.val :=
  (by decide +kernel : ∀ t : Fin grid0.N, (grid0.coords t 0).val = t.val)

/-- The output window is idle at every point but the last, -/
theorem idle_out : ∀ t : Fin cfg0.N, t.val ≠ 7 → cfg0.idle 2 (grid0.coords t) = true :=
  (by decide +kernel : ∀ t : Fin cfg0.N, t.val ≠ 7 → cfg0.idle 2 (grid0.coords t) = true)
/-- is not written back there, -/
theorem noFlush_out : ∀ t : Fin cfg0.N, t.val ≠ 7 → (cfg0.win 2).flush t = false :=
  (by decide +kernel : ∀ t : Fin cfg0.N, t.val ≠ 7 → (cfg0.win 2).flush t = false)
/-- and is in use at the last. -/
theorem live_out : ∀ t : Fin cfg0.N, t.val = 7 → cfg0.idle 2 (grid0.coords t) = false :=
  (by decide +kernel : ∀ t : Fin cfg0.N, t.val = 7 → cfg0.idle 2 (grid0.coords t) = false)

/-- There are eight grid points. -/
theorem N_eq : cfg0.N = 8 := N_0

/-! ## The body at any grid point -/

/-- The body at grid point t takes the scratch buffers from σ to `Scr.step t σ`; the last point leaves the loss in the
    output buffer, the others leave it alone. -/
theorem body_step (c : Dev nD) (t : Fin cfg0.N) {arg1 : Memref sig .tc .vmem S32x65536 .bf16} (harg1 : arg1.IsWhole) {arg2 : Memref sig .tc .vmem S1x1x65536 .i32} (harg2 : arg2.IsWhole) {arg3 : Memref sig .tc .vmem S1x1 .f32} (harg3 : arg3.IsWhole) {arg4 : Memref sig .tc .vmem S32x32 .f32} (harg4 : arg4.IsWhole) {arg5 : Memref sig .tc .vmem S32x8 .f32} (harg5 : arg5.IsWhole) {arg6 : Memref sig .tc .vmem S32x8 .f32} (harg6 : arg6.IsWhole) {arg7 : Memref sig .tc .vmem S32x32 .f32} (harg7 : arg7.IsWhole) {arg8 : Memref sig .tc .vmem S32x32 .bf16} (harg8 : arg8.IsWhole) {arg9 : Memref sig .tc .vmem S4x32x65536 .bf16} (harg9 : arg9.IsWhole)
    (x : Vec F S32x65536 .bf16) (y : Vec F S1x1x65536 .i32) (o : Vec F S1x1 .f32) (σ : Scr F) (E : Set ℕ) (K : PUnit → sProp 𝕄) :
    iprop(owns (c : Thread nD τ) arg1 fullShare x ∗ owns (c : Thread nD τ) arg2 fullShare y ∗ owns (c : Thread nD τ) arg3 fullShare o ∗ held c arg4 arg5 arg6 arg7 arg8 arg9 σ ∗
        (iprop(owns (c : Thread nD τ) arg1 fullShare x ∗ owns (c : Thread nD τ) arg2 fullShare y ∗ owns (c : Thread nD τ) arg3 fullShare (if t.val = 7 then (Scr.step t.val x y σ).total else o) ∗ held c arg4 arg5 arg6 arg7 arg8 arg9 (Scr.step t.val x y σ)) -∗ K ⟨⟩))
      ⊢ wp frame (wpE (defs₀ (F := F)) Variants.none c none) E (cc0__body (grid0.coords t) arg1 harg1 arg2 harg2 arg3 harg3 arg4 harg4 arg5 harg5 arg6 harg6 arg7 harg7 arg8 harg8 arg9 harg9) K := by
  have hN : t.val < 8 := lt_of_lt_of_eq t.isLt N_eq
  have hb : blk (grid0.coords t) = blkOf t.val := congrArg blkOf (coords_eq t)
  have i0 := isFirst_iff t; have i1 := isPass1_iff t; have i2 := isMean_iff t; have i3 := isPass2_iff t; have i4 := isLast_iff t
  rcases (by omega : t.val = 0 ∨ (t.val = 1 ∨ t.val = 2) ∨ t.val = 3 ∨ (4 ≤ t.val ∧ t.val < 7) ∨ t.val = 7) with h | h | h | h | h
  · have e : Scr.step t.val x y σ = Scr.pass1 (blk (grid0.coords t)) x y σ.init := by
      rw [hb]; simp [Scr.step, h]
    rw [e, if_neg (by omega)]
    exact body_first c _ harg1 harg2 harg3 harg4 harg5 harg6 harg7 harg8 harg9 (i0.mpr h) (i1.mpr (by omega)) (fun e => absurd (i2.mp e) (by omega)) (fun e => absurd (i3.mp e) (by omega)) (fun e => absurd (i4.mp e) (by omega)) x y o σ E K
  · have e : Scr.step t.val x y σ = Scr.pass1 (blk (grid0.coords t)) x y σ := by
      rw [hb]; unfold Scr.step; rw [if_pos (by omega), if_neg (by omega), if_neg (by omega)]; rfl
    rw [e, if_neg (by omega)]
    exact body_add c _ harg1 harg2 harg3 harg4 harg5 harg6 harg7 harg8 harg9 (fun e => absurd (i0.mp e) (by omega)) (i1.mpr (by omega)) (fun e => absurd (i2.mp e) (by omega)) (fun e => absurd (i3.mp e) (by omega)) (fun e => absurd (i4.mp e) (by omega)) x y o σ E K
  · have e : Scr.step t.val x y σ = (Scr.pass1 (blk (grid0.coords t)) x y σ).mean := by
      rw [hb]; unfold Scr.step; rw [if_pos (by omega), if_pos (by omega), if_neg (by omega)]; rfl
    rw [e, if_neg (by omega)]
    exact body_mean c _ harg1 harg2 harg3 harg4 harg5 harg6 harg7 harg8 harg9 (fun e => absurd (i0.mp e) (by omega)) (i1.mpr (by omega)) (i2.mpr h) (fun e => absurd (i3.mp e) (by omega)) (fun e => absurd (i4.mp e) (by omega)) x y o σ E K
  · have e : Scr.step t.val x y σ = Scr.pass2 (blk (grid0.coords t)) y σ := by
      rw [hb]; unfold Scr.step; rw [if_neg (by omega)]
    rw [e, if_neg (by omega)]
    exact body_hinge c _ harg1 harg2 harg3 harg4 harg5 harg6 harg7 harg8 harg9 (fun e => absurd (i0.mp e) (by omega)) (fun e => absurd (i1.mp e) (by omega)) (fun e => absurd (i2.mp e) (by omega)) (i3.mpr (by omega)) (fun e => absurd (i4.mp e) (by omega)) x y o σ E K
  · have e : Scr.step t.val x y σ = Scr.pass2 (blk (grid0.coords t)) y σ := by
      rw [hb]; unfold Scr.step; rw [if_neg (by omega)]
    rw [e, if_pos h]
    exact body_last c _ harg1 harg2 harg3 harg4 harg5 harg6 harg7 harg8 harg9 (fun e => absurd (i0.mp e) (by omega)) (fun e => absurd (i1.mp e) (by omega)) (fun e => absurd (i2.mp e) (by omega)) (i3.mpr (by omega)) (i4.mpr h) x y o σ E K

/-! ## The blocks, and what is held between points -/

/-- Grid point n. -/
def pt (n : ℕ) : Fin cfg0.N := ⟨n % 8, lt_of_lt_of_eq (Nat.mod_lt _ (by decide)) N_eq.symm⟩

/-- Grid point number t is t. -/
theorem pt_val (t : Fin cfg0.N) : pt t.val = t :=
  Fin.ext (Nat.mod_eq_of_lt (lt_of_lt_of_eq t.isLt N_eq))

/-- The block of points grid point n reads. -/
def xblk (c : Dev nD) (n : ℕ) : Vec F S32x65536 .bf16 := iblk m c 0 (pt n)

/-- The labels grid point n reads. -/
def tblk (c : Dev nD) (n : ℕ) : Vec F S1x1x65536 .i32 := iblk m c 1 (pt n)

abbrev sc0 : Memref sig .tc .vmem S32x32 .f32 := Memref.whole cc0_scratch0
abbrev sc1 : Memref sig .tc .vmem S32x8 .f32 := Memref.whole cc0_scratch1
abbrev sc2 : Memref sig .tc .vmem S32x8 .f32 := Memref.whole cc0_scratch2
abbrev sc3 : Memref sig .tc .vmem S32x32 .f32 := Memref.whole cc0_scratch3
abbrev sc4 : Memref sig .tc .vmem S32x32 .bf16 := Memref.whole cc0_scratch4
abbrev sc5 : Memref sig .tc .vmem S4x32x65536 .bf16 := Memref.whole cc0_scratch5

/-- Before grid point n the scratch buffers hold what the points before it made of whatever they held at launch. -/
def Held (c : Dev nD) (n : ℕ) : sProp 𝕄 :=
  iprop((∃ σ : Scr F, held c sc0 sc1 sc2 sc3 sc4 sc5 (Scr.run (xblk m c) (tblk m c) σ n)) ∗ (∃ r, prngReg c r))

/-- What the launch hands over: every scratch buffer at some contents. -/
theorem launch_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
        ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The contents of the arrays, of the staging buffers after each point, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossOf (xblk m c) (tblk m c)
  Φ t := Held m c t.val
  q _ := fullShare
  owed _ := 0

/-- An array starts at what the launch finds in it. -/
theorem A_eq (c : Dev nD) (w : Fin cfg0.W) : (dats m 0 c).A w = V m c (Pipeline.arrRef spec0 w) := by
  dsimp only [dats]
/-- The blocks read are left as they were, -/
theorem after_0 (c : Dev nD) (t : Fin cfg0.N) : (dats m 0 c).after 0 t = iblk m c 0 t := by dsimp only [dats]
/-- and so are the labels; -/
theorem after_1 (c : Dev nD) (t : Fin cfg0.N) : (dats m 0 c).after 1 t = iblk m c 1 t := by dsimp only [dats]
/-- the output buffer ends with the loss. -/
theorem after_2 (c : Dev nD) (t : Fin cfg0.N) : (dats m 0 c).after 2 t = lossOf (xblk m c) (tblk m c) := by dsimp only [dats]
/-- Before a point its block of points is in place, -/
theorem before_0 (c : Dev nD) (t : Fin cfg0.N) (d) : (dats m 0 c).before 0 t d = iblk m c 0 t :=
  before0_0_of m (dats m 0 c) (A_eq m c 0) (after_0 m c) t d
/-- and its labels are. -/
theorem before_1 (c : Dev nD) (t : Fin cfg0.N) (d) : (dats m 0 c).before 1 t d = iblk m c 1 t :=
  before0_1_of m (dats m 0 c) (A_eq m c 1) (after_1 m c) t d

/-! ## The obligation at a grid point -/

abbrev st0 (t : Fin cfg0.N) : Memref sig .tc .vmem S32x65536 .bf16 := win0_0.stage (cfg0.slots t 0)
abbrev st1 (t : Fin cfg0.N) : Memref sig .tc .vmem S1x1x65536 .i32 := win0_1.stage (cfg0.slots t 1)
abbrev st2 (t : Fin cfg0.N) : Memref sig .tc .vmem S1x1 .f32 := win0_2.stage (cfg0.slots t 2)

/-- What the body is given at a grid point, -/
def givenAt (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d)))

/-- and what it gives back. -/
def leftAt (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body takes what it is given at a grid point to what it gives back there. -/
theorem sound_at (c : Dev nD) (t : Fin cfg0.N) :
    givenAt m c t ⊢ wp frame (wpE (defs₀ (F := F)) Variants.none c none) Set.univ (bodyAt0 t) (fun _ => leftAt m c t) := by
  unfold givenAt leftAt bodyAt0
  simp only [before_0, before_1]
  rw [show (dats m 0 c).owesAt () t.succ = (dats m 0 c).owesAt () t.castSucc from rfl]
  rw [show (dats m 0 c).Φ t.succ = Held m c (t.val + 1) from rfl, show (dats m 0 c).Φ t.castSucc = Held m c t.val from rfl]
  rw [show (dats m 0 c).leavesExact 0 t = owns (c : Thread nD τ) (st0 t) fullShare (iblk m c 0 t) from by
    unfold Dat.leavesExact; rw [show cfg0.idle 0 (cfg0.grid.coords t) = false from rfl, after_0]]
  rw [show (dats m 0 c).leavesExact 1 t = owns (c : Thread nD τ) (st1 t) fullShare (iblk m c 1 t) from by
    unfold Dat.leavesExact; rw [show cfg0.idle 1 (cfg0.grid.coords t) = false from rfl, after_1]]
  have hx : xblk m c t.val = iblk m c 0 t := by unfold xblk; rw [pt_val]
  have ht : tblk m c t.val = iblk m c 1 t := by unfold tblk; rw [pt_val]
  have hrun : ∀ σ : Scr F, Scr.run (xblk m c) (tblk m c) σ (t.val + 1) = Scr.step t.val (iblk m c 0 t) (iblk m c 1 t) (Scr.run (xblk m c) (tblk m c) σ t.val) := by
    intro σ; rw [Scr.run, hx, ht]
  unfold Held
  by_cases h : t.val = 7
  · rw [show (dats m 0 c).leavesExact 2 t = owns (c : Thread nD τ) (st2 t) fullShare (lossOf (xblk m c) (tblk m c)) from by
      unfold Dat.leavesExact; rw [live_out t h, after_2]]
    iintro ⟨⟨⟨%σ, Hs⟩, Hg⟩, Ho, ⟨%d0, H0⟩, ⟨%d1, H1⟩, ⟨%d2, H2⟩⟩
    iapply (body_step c t _ _ _ _ _ _ _ _ _ (iblk m c 0 t) (iblk m c 1 t) _ (Scr.run (xblk m c) (tblk m c) σ t.val) Set.univ _)
    isplitl [H0]; · iexact H0
    isplitl [H1]; · iexact H1
    isplitl [H2]; · iexact H2
    isplitl [Hs]; · iexact Hs
    rw [if_pos h, ← hrun σ, show t.val + 1 = 8 from by omega, total_run]
    iintro ⟨H0, H1, H2, Hs⟩
    isplitl [Hs Hg]
    · isplitl [Hs]
      · iexists σ; iexact Hs
      iexact Hg
    isplitl [Ho]; · iexact Ho
    isplitl [H0]; · iexact H0
    isplitl [H1]; · iexact H1
    iexact H2
  · rw [Dat.leavesExact_idle (dats m 0 c) 2 t (idle_out t h) (noFlush_out t h)]
    iintro ⟨⟨⟨%σ, Hs⟩, Hg⟩, Ho, ⟨%d0, H0⟩, ⟨%d1, H1⟩, ⟨%d2, H2⟩⟩
    iapply (body_step c t _ _ _ _ _ _ _ _ _ (iblk m c 0 t) (iblk m c 1 t) _ (Scr.run (xblk m c) (tblk m c) σ t.val) Set.univ _)
    isplitl [H0]; · iexact H0
    isplitl [H1]; · iexact H1
    isplitl [H2]; · iexact H2
    isplitl [Hs]; · iexact Hs
    rw [if_neg h, ← hrun σ]
    iintro ⟨H0, H1, H2, Hs⟩
    isplitl [Hs Hg]
    · isplitl [Hs]
      · iexists σ; iexact Hs
      iexact Hg
    isplitl [Ho]; · iexact Ho
    isplitl [H0]; · iexact H0
    isplitl [H1]; · iexact H1
    iexists _; iexact H2

/-- The function called at a point is the body there. -/
theorem row_at (t : Fin cfg0.N) :
    defs₀ (F := F) .tc cfg0.body (cfg0.bodyArgs t (cfg0.slots t)) = bodyAt0 t := by
  unfold defs₀; rw [Defs.onTc_tc]

/-- The obligation at every grid point. -/
theorem obligation (c : Dev nD) : BodyObligation (dats (F := F) m 0 c) (defs₀ (F := F)) Variants.none () Set.univ := fun t => by
  rw [bigSep_W0, bigSep_W0, row_at]
  exact triple_restated (sound_at m c t) rfl .rfl fun _ => .rfl

/-- What the launch hands over is what is held before the first point. -/
theorem held_in (c : Dev nD) : Pipeline.ΦA spec0 c ⊢ (dats m 0 c).Φ 0 := by
  rw [show (dats m 0 c).Φ 0 = Held m c 0 from rfl, launch_eq]
  unfold Held held
  iintro ⟨⟨⟨%a0, H0⟩, ⟨%a1, H1⟩, ⟨%a2, H2⟩, ⟨%a3, H3⟩, ⟨%a4, H4⟩, ⟨%a5, H5⟩⟩, Hg⟩
  isplitr [Hg]
  · iexists (⟨a0, a1, a2, a3, a4, a5⟩ : Scr F)
    isplitl [H0]; · iexact H0
    isplitl [H1]; · iexact H1
    isplitl [H2]; · iexact H2
    isplitl [H3]; · iexact H3
    isplitl [H4]; · iexact H4
    iexact H5
  iexact Hg

/-- What is held after the last point is handed back. -/
theorem held_out (c : Dev nD) : (dats m 0 c).Φ (Fin.last cfg0.N) ⊢ Pipeline.ΦA spec0 c := by
  rw [show (dats m 0 c).Φ (Fin.last cfg0.N) = Held m c cfg0.N from rfl, launch_eq]
  unfold Held held
  iintro ⟨⟨%σ, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-! ## The run -/

set_option backward.isDefEq.respectTransparency.types false in
set_option maxHeartbeats 800000 in
/-- Every execution terminates with the arrays as the proof data say, the other buffers as the later host operations leave
    them, and every semaphore at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := held_in m) (hout := held_out m)

/-- The same without the semaphores. -/
theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- Every execution terminates with both arguments unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiet m ρ))

end Cert.KernelIdeal.Loss

end
-- ==== Proof.Loss.Frames.lean ====
/- The runs that the claims about termination, unchanged arguments and idle semaphores ask for. -/
module

public import proofs.«01_k».proof.Defs
public import proofs.«01_k».proof.Proof.Gen.Kernel
public import proofs.«01_k».proof.Proof.Loss.Run
public import proofs.«01_k».proof.Proof.Gen.ReferenceIdeal.Run
public import Idealize.ShloMosaic.Lib.Quiescent

@[expose] public section

noncomputable section

namespace Cert.KernelIdeal.Loss

open Idealize.ShloMosaic Idealize.SL.Sem

/-- The compiled program and the one read at the extended reals are the same program. -/
theorem main_eq {F : FTy → Type} [FloatOps F] : Cert.Kernel.main (F := F) = Cert.KernelIdeal.main (F := F) := by
  with_unfolding_all rfl

/-- Their kernels are the same. -/
theorem defs₀_eq {F : FTy → Type} [FloatOps F] : Cert.Kernel.defs₀ (F := F) = Cert.KernelIdeal.defs₀ (F := F) :=
  congrArg Defs.onTc (funext fun l => by
    match l with
    | ⟨0, _⟩ => funext a; obtain ⟨t, s⟩ := a; with_unfolding_all rfl)

/-- The two printed programs have the same functions. -/
theorem defs_eq {F : FTy → Type} [FloatOps F] : Cert.Kernel.defs (F := F) = Cert.KernelIdeal.defs (F := F) := by
  have e : Cert.Kernel.defs (F := F) = Pipeline.defs Cert.KernelIdeal.pcfgs (Cert.Kernel.defs₀ (F := F)) := by with_unfolding_all rfl
  rw [e, defs₀_eq]; rfl

set_option maxRecDepth 16384 in
/-- The compiled program terminates, leaves its arguments unchanged and its semaphores at zero. -/
theorem kernel_frame : Cert.quiescent_Kernel := fun m g _ => by
  have h := frame_any (F := Bits) m g
  rw [← defs_eq, ← main_eq] at h
  exact h

/-- So does the program read at the extended reals. -/
theorem ideal_frame : Cert.quiescent_KernelIdeal := fun m g _ => frame_any (F := Ideal) m g

/-- So does the reference, which has no semaphore. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

end Cert.KernelIdeal.Loss

end
-- ==== Proof.Loss.Spec.lean ====
/-
The two losses as plain formulas over the extended reals, for any points, coordinates and labels.
-/
module

public import Idealize.ShloMosaic.Lib.IdealHost

@[expose] public section

noncomputable section

open scoped BigOperators
open Idealize.ShloMosaic

namespace Cert.Loss

/-- The small number added under every square root. -/
def eps : EReal := Ideal.ofBits .f32 0x2B8CBCCC#32
/-- One half: the radius inside which a point is not pulled. -/
def half : EReal := Ideal.ofBits .f32 0x3F000000#32
/-- Two. -/
def two : EReal := Ideal.ofBits .f32 0x40000000#32
/-- Three: the distance beyond which two means are not pushed. -/
def three : EReal := Ideal.ofBits .f32 0x40400000#32
/-- The number of clusters. -/
def clusters : EReal := Ideal.ofBits .f32 0x42000000#32
/-- The number of ordered pairs of different clusters. -/
def pairs : EReal := Ideal.ofBits .f32 0x44780000#32
/-- The weight of the regularization term. -/
def gamma : EReal := Ideal.ofBits .f32 0x3A83126F#32

/-- One where the word is the number of the cluster, zero elsewhere. -/
def hot (w : BitVec 32) (k : ℕ) : EReal := if w = BitVec.ofNat 32 k then 1 else 0

/-- One on the diagonal, zero off it. -/
def diag (i j : Fin 32) : EReal := if i = j then 1 else 0

/-- The hinge of a point at squared distance s from its mean. -/
def hinge (s : EReal) : EReal :=
  max (Ideal.sqrt (s + eps) - half) 0 * max (Ideal.sqrt (s + eps) - half) 0

/-- The hinge of two means at squared distance s. -/
def push (s : EReal) : EReal :=
  max (three - Ideal.sqrt (s + eps)) 0 * max (three - Ideal.sqrt (s + eps)) 0

section Data

variable {P : Type} [Fintype P] (x : P → Fin 32 → EReal) (t : P → BitVec 32)

/-- The number of points of a cluster. -/
def size (k : Fin 32) : EReal := ∑ p, hot (t p) k

/-- The number of points of a cluster, or one when it has none. -/
def den (k : Fin 32) : EReal := max (size t k) 1

/-- The mean of a cluster. -/
def mean (k d : Fin 32) : EReal := Ideal.div (∑ p, hot (t p) k * x p d) (den t k)

/-- The scalar product of two vectors. -/
def dot (a b : Fin 32 → EReal) : EReal := ∑ d, a d * b d

/-- The squared distance of two vectors. -/
def dist2 (a b : Fin 32 → EReal) : EReal := ∑ d, (a d - b d) * (a d - b d)

/-- The squared distance of a point from its mean as the kernel expands it. -/
def spread (m : Fin 32 → Fin 32 → EReal) (w : BitVec 32) (v : Fin 32 → EReal) : EReal :=
  max (dot v v - two * ∑ k : Fin 32, if w = BitVec.ofNat 32 k then dot (m k) v - half * dot (m k) (m k) else 0) 0

/-- The squared distance of two means as the kernel expands it. -/
def apart (a b : Fin 32 → EReal) : EReal := max (dot a a + dot b b - two * dot a b) 0

/-- The mean norm of the means, the same in both programs. -/
def reg (m : Fin 32 → Fin 32 → EReal) : EReal :=
  Ideal.div (∑ j, Ideal.sqrt (dot (m j) (m j) + eps)) clusters

/-- The kernel's loss. -/
def kernelLoss : EReal :=
  Ideal.div (∑ k : Fin 32, Ideal.div (∑ p, hot (t p) k * hinge (spread (mean x t) (t p) (x p))) (den t k)) clusters
    + Ideal.div (∑ i, ∑ j, push (apart (mean x t i) (mean x t j)) * (1 - diag i j)) pairs
    + gamma * reg (mean x t)

/-- The reference's loss. -/
def referenceLoss : EReal :=
  Ideal.div (∑ k : Fin 32, Ideal.div (∑ p, if t p = BitVec.ofNat 32 k then hinge (dist2 (x p) (mean x t k)) else 0)
      (den t k)) clusters
    + Ideal.div (∑ i, ∑ j, push (dist2 (mean x t i) (mean x t j)) * (1 - diag i j)) pairs
    + gamma * reg (mean x t)

end Data

end Cert.Loss

end
-- ==== Proof.Loss.Pay.lean ====
/-
What the kernel's computations leave, read at one index, over the extended reals.
-/
module

public import proofs.«01_k».proof.Proof.Loss.State
public import proofs.«01_k».proof.Proof.Loss.Spec
public import Idealize.ShloMosaic.Lib.Pointwise
public import Idealize.ShloMosaic.Lib.WordCmp

@[expose] public section

set_option maxRecDepth 16384

noncomputable section

open scoped BigOperators
open Idealize.ShloMosaic Idealize.ShloMosaic.TcCoe Idealize.SL.Sem

namespace Cert.KernelIdeal.Loss

open Cert.KernelIdeal Cert.KernelIdeal.Gen Cert.Loss

/-- A test turned into a number is one or zero. -/
theorem number_of (b : Bool) :
    (FloatOps.sitofp (F := Ideal) .f32 ((BitVec.ofBool b).setWidth 32) : EReal) = if b then 1 else 0 := by
  cases b
  · show (((0 : ℤ) : ℝ) : EReal) = 0
    simp
  · show (((1 : ℤ) : ℝ) : EReal) = 1
    simp

/-- The mask of a block: whether a point is in a cluster. -/
theorem pay4_at (T : Vec Ideal S1x1x65536 .i32) (k : Fin 32) (q : Fin 65536) :
    k0_pay4 (F := Ideal) T (ix2 k q) = BitVec.ofBool (decide (T (ix3 0 0 q) = BitVec.ofNat 32 k)) := by
  pointwise [k0_pay4]
  simp only [IntOp.cmpi]
  congr 1

/-- The mask as numbers. -/
theorem pay5_at (T : Vec Ideal S1x1x65536 .i32) (k : Fin 32) (q : Fin 65536) :
    k0_pay5 (F := Ideal) T (ix2 k q) = hot (T (ix3 0 0 q)) k := by
  have e : k0_pay5 (F := Ideal) T (ix2 k q) = FloatOps.sitofp (F := Ideal) .f32 ((k0_pay4 (F := Ideal) T (ix2 k q)).setWidth 32) := by
    pointwise [k0_pay5]
  rw [e, pay4_at, number_of, hot]
  simp only [decide_eq_true_eq]

/-- The block kept for the second pass. -/
theorem pay7_at (X : Vec Ideal S32x65536 .bf16) (d : Fin 32) (q : Fin 65536) :
    k0_pay7 (F := Ideal) X (ix3 0 d q) = X (ix2 d q) := by
  pointwise [k0_pay7, k0_pay6]

/-- The sums grow by the block's points of the cluster. -/
theorem pay8_at (T : Vec Ideal S1x1x65536 .i32) (X : Vec Ideal S32x65536 .bf16) (s : Vec Ideal S32x32 .f32) (k d : Fin 32) :
    k0_pay8 (F := Ideal) T X s (ix2 k d) = s (ix2 k d) + ∑ q : Fin 65536, hot (T (ix3 0 0 q)) k * X (ix2 d q) := by
  pointwise [k0_pay8, k0_pay6]
  simp only [pay5_at]

/-- The words of the numbers below eight are at least zero. -/
theorem sge_zero (n : ℕ) (h : n < 8) : IntOp.cmpi .sge (BitVec.ofNat 32 n) 0#32 = BitVec.ofBool true := by
  have : ∀ n : Fin 8, IntOp.cmpi .sge (BitVec.ofNat 32 n.val) 0#32 = BitVec.ofBool true := by decide
  exact this ⟨n, h⟩

/-- The sizes grow by the number of the block's points of the cluster. -/
theorem pay9_at (T : Vec Ideal S1x1x65536 .i32) (s : Vec Ideal S32x8 .f32) (k : Fin 32) (j : Fin 8) :
    k0_pay9 (F := Ideal) T s (ix2 k j) = s (ix2 k j) + ∑ q : Fin 65536, hot (T (ix3 0 0 q)) k := by
  pointwise [k0_pay9]
  rw [sge_zero _ j.isLt, number_of]
  simp only [pay5_at, if_true, mul_one]

/-- The means. -/
theorem pay11_at (v : Vec Ideal S32x1 .f32) (s : Vec Ideal S32x32 .f32) (k d : Fin 32) :
    k0_pay11 (F := Ideal) v s (ix2 k d) = Ideal.div (s (ix2 k d)) (max (v (ix2 k 0)) 1) := by
  pointwise [k0_pay11, k0_pay10]

/-- The means in the narrow format. -/
theorem pay12_at (v : Vec Ideal S32x1 .f32) (s : Vec Ideal S32x32 .f32) (k d : Fin 32) :
    k0_pay12 (F := Ideal) v s (ix2 k d) = Ideal.div (s (ix2 k d)) (max (v (ix2 k 0)) 1) := by
  pointwise [k0_pay12, k0_pay10]

/-- The hinge sums grow by the hinges of the block's points of the cluster. -/
theorem pay13_at (T : Vec Ideal S1x1x65536 .i32) (h : FVec Ideal S8x65536 .bf16) (s : Vec Ideal S32x8 .f32) (k : Fin 32) (j : Fin 8) :
    k0_pay13 (F := Ideal) T h s (ix2 k j) = s (ix2 k j) + ∑ q : Fin 65536, hot (T (ix3 0 0 q)) k * h (ix2 j q) := by
  pointwise [k0_pay13]
  simp only [pay5_at]

/-- The hinges of a block's points. -/
theorem pay15_at (T : Vec Ideal S1x1x65536 .i32) (X : Vec Ideal S1x32x65536 .bf16) (m : Vec Ideal S32x32 .f32)
    (m' : Vec Ideal S32x32 .bf16) (hm : ∀ k d : Fin 32, m' (ix2 k d) = m (ix2 k d)) (j : Fin 8) (q : Fin 65536) :
    k0_pay15 (F := Ideal) (k0_pay4 (F := Ideal) T) X m m' (ix2 j q)
      = hinge (spread (fun k d => m (ix2 k d)) (T (ix3 0 0 q)) fun d => X (ix3 0 d q)) := by
  have h0 : IntOp.cmpi .sge 0#32 0#32 = BitVec.ofBool true := by decide
  pointwise [k0_pay15]
  simp only [h0, number_of, if_true, one_mul, hm, pay4_at]
  have hs : ∀ (b : Bool) (u v : EReal), Scalar.select (BitVec.ofBool b) u v = if b then u else v := fun b u v => by cases b <;> rfl
  simp only [hs, decide_eq_true_eq]
  rfl

/-- The pull term. -/
theorem pay16_at (a b : Vec Ideal S32x1 .f32) :
    k0_pay16 (F := Ideal) a b = Ideal.div (∑ k : Fin 32, Ideal.div (b (ix2 k 0)) (max (a (ix2 k 0)) 1)) clusters := by
  pointwise [k0_pay16]
  simp only [Finset.univ_unique, Finset.sum_singleton]
  rfl

/-- The comparison of the row number with the column number, as a number. -/
theorem word_diag (i j : Fin 32) :
    (FloatOps.sitofp (F := Ideal) .f32 (BitVec.setWidth 32 (IntOp.cmpi .eq (BitVec.ofNat 32 i) (BitVec.ofNat 32 j))) : EReal)
      = diag i j := by
  have e : IntOp.cmpi .eq (BitVec.ofNat 32 i) (BitVec.ofNat 32 j) = BitVec.ofBool (decide (i = j)) := by
    revert i j; decide
  rw [e, number_of, diag]
  simp only [decide_eq_true_eq]

/-- A sum against a column of the diagonal picks one term; -/
theorem sum_diag (f : Fin 32 → EReal) (j : Fin 32) : ∑ i, f i * diag i j = f j := by
  rw [Finset.sum_eq_single j]
  · rw [diag, if_pos rfl, mul_one]
  · intro i _ h; rw [diag, if_neg h, mul_zero]
  · intro h; exact absurd (Finset.mem_univ j) h

/-- so does one against a row. -/
theorem sum_diag' (f : Fin 32 → EReal) (j : Fin 32) : ∑ i, f i * diag j i = f j := by
  rw [← sum_diag f j]
  exact Finset.sum_congr rfl fun i _ => by rw [diag, diag]; simp only [eq_comm]

/-- The squared norms of the means. -/
theorem pay19_at (a : Vec Ideal S32x32 .f32) (j : Fin 32) :
    k0_pay19 (F := Ideal) a (ix2 0 j) = dot (fun d => a (ix2 j d)) (fun d => a (ix2 j d)) := by
  pointwise [k0_pay19, k0_pay18, k0_pay17]
  simp only [word_diag]
  exact sum_diag (fun i => ∑ d, a (ix2 i d) * a (ix2 j d)) j

/-- The push of two means. -/
theorem pay20_at (a : Vec Ideal S32x32 .f32) (i j : Fin 32) :
    k0_pay20 (F := Ideal) a (ix2 i j)
      = push (apart (fun d => a (ix2 i d)) (fun d => a (ix2 j d))) * (1 - diag i j) := by
  pointwise [k0_pay20, k0_pay19, k0_pay18, k0_pay17]
  simp only [word_diag]
  rw [sum_diag' (fun l => ∑ d, a (ix2 i d) * a (ix2 l d)) i, sum_diag (fun l => ∑ d, a (ix2 l d) * a (ix2 j d)) j]
  rfl

/-- The loss from its three terms' ingredients. -/
theorem pay14_at (a : Ideal .f32) (b : FVec Ideal S1x32 .f32) (s : FVec Ideal S32x32 .f32) :
    k0_pay14 (F := Ideal) a b s (ix2 0 0)
      = a + Ideal.div (∑ i : Fin 32, ∑ j : Fin 32, s (ix2 i j)) pairs
        + gamma * Ideal.div (∑ j : Fin 32, Ideal.sqrt (b (ix2 0 j) + eps)) clusters := by
  pointwise [k0_pay14]
  simp only [Finset.univ_unique, Finset.sum_singleton]
  rfl

/-- The first of the equal columns. -/
theorem col0_at (v : Vec Ideal S32x8 .f32) (k : Fin 32) : col0 v (ix2 k 0) = v (ix2 k 0) := by
  rw [col0, VecWindow.window]
  congr 1
  funext a
  match a with
  | ⟨0, _⟩ => apply Fin.ext; simp
  | ⟨1, _⟩ => apply Fin.ext; simp

end Cert.KernelIdeal.Loss

end
-- ==== Proof.Loss.Blocks.lean ====
/-
The loss of four blocks is the loss of all their points.
-/
module

public import proofs.«01_k».proof.Proof.Loss.Pay
public import Idealize.ShloMosaic.Lib.Pipeline.ValueKit

@[expose] public section

set_option maxRecDepth 16384

noncomputable section

open scoped BigOperators
open Idealize.ShloMosaic Idealize.ShloMosaic.TcCoe Idealize.SL.Sem

namespace Cert.KernelIdeal.Loss

open Cert.KernelIdeal Cert.KernelIdeal.Gen Cert.Loss

/-- The points of the four blocks are among all points. -/
theorem point_lt (n : Fin 4) (q : Fin 65536) : n.val * 65536 + q.val < 262144 := by omega

/-- The same with the block number taken from any grid point. -/
theorem label_lt (n : ℕ) (q : Fin 65536) : n % 4 * 65536 + q.val < 262144 := by omega

/-- Point q of block n. -/
abbrev place (n : ℕ) (q : Fin 65536) : Fin 262144 := ⟨n % 4 * 65536 + q.val, label_lt n q⟩

/-- A sum over all points, block by block. -/
theorem sum_blocks (f : Fin 262144 → EReal) :
    ∑ p, f p = 0 + (∑ q, f (place 0 q)) + (∑ q, f (place 1 q)) + (∑ q, f (place 2 q)) + ∑ q, f (place 3 q) := by
  rw [zero_add]
  refine (Fin.sum_univ_tiles 4 65536 rfl f).trans ?_
  rw [Fin.sum_univ_four]
  rfl

section

variable (X : ℕ → Vec Ideal S32x65536 .bf16) (T : ℕ → Vec Ideal S1x1x65536 .i32)
  (x : Fin 262144 → Fin 32 → EReal) (t : Fin 262144 → BitVec 32)
  (hX : ∀ n : Fin 4, ∀ (d : Fin 32) (q : Fin 65536), X n (ix2 d q) = x ⟨n.val * 65536 + q.val, point_lt n q⟩ d)
  (hT : ∀ n : Fin 8, ∀ q : Fin 65536, T n (ix3 0 0 q) = t (place n q))

/-- The sums start at zero, -/
theorem pay1_at (i : S32x32.Idx) : k0_pay1 (F := Ideal) i = (0 : EReal) := by
  show Ideal.ofBits .f32 0#32 = 0
  simp

/-- the sizes start at zero, -/
theorem pay2_at (i : S32x8.Idx) : k0_pay2 (F := Ideal) i = (0 : EReal) := by
  show Ideal.ofBits .f32 0#32 = 0
  simp

/-- and the hinges start at zero. -/
theorem pay3_at (i : S32x8.Idx) : k0_pay3 (F := Ideal) i = (0 : EReal) := by
  show Ideal.ofBits .f32 0#32 = 0
  simp

include hT in
/-- The sizes of the clusters. -/
theorem cntsAt_at (k : Fin 32) : cntsAt T 4 (ix2 k 0) = size t k := by
  rw [size, sum_blocks]
  simp only [cntsAt, pay9_at, pay2_at]
  rw [show T 0 = T (0 : Fin 8) from rfl]
  simp only [hT 0, show ∀ q, T 1 (ix3 0 0 q) = _ from hT 1, show ∀ q, T 2 (ix3 0 0 q) = _ from hT 2, show ∀ q, T 3 (ix3 0 0 q) = _ from hT 3]
  rfl

include hX hT in
/-- The sums of the clusters. -/
theorem sumsAt_at (k d : Fin 32) : sumsAt X T 4 (ix2 k d) = ∑ p, hot (t p) k * x p d := by
  rw [sum_blocks]
  simp only [sumsAt, pay8_at, pay1_at]
  simp only [show ∀ q, T 0 (ix3 0 0 q) = _ from hT 0, show ∀ q, T 1 (ix3 0 0 q) = _ from hT 1, show ∀ q, T 2 (ix3 0 0 q) = _ from hT 2, show ∀ q, T 3 (ix3 0 0 q) = _ from hT 3,
    show ∀ q, X 0 (ix2 d q) = _ from hX 0 d, show ∀ q, X 1 (ix2 d q) = _ from hX 1 d, show ∀ q, X 2 (ix2 d q) = _ from hX 2 d, show ∀ q, X 3 (ix2 d q) = _ from hX 3 d]
  rfl

include hX hT in
/-- The means of the clusters. -/
theorem meansOf_at (k d : Fin 32) : meansOf X T (ix2 k d) = mean x t k d := by
  rw [meansOf, pay11_at, col0_at, sumsAt_at X T x t hX hT, cntsAt_at T t hT]
  rfl

include hX hT in
/-- The means once more. -/
theorem means16Of_at (k d : Fin 32) : means16Of X T (ix2 k d) = mean x t k d := by
  rw [means16Of, pay12_at, col0_at, sumsAt_at X T x t hX hT, cntsAt_at T t hT]
  rfl

include hX hT in
/-- The hinge of a point of a block. -/
theorem hinge_at (n : Fin 4) (j : Fin 8) (q : Fin 65536) :
    k0_pay15 (F := Ideal) (k0_pay4 (F := Ideal) (T (4 + n))) (k0_pay7 (X n)) (meansOf X T) (means16Of X T) (ix2 j q)
      = hinge (spread (mean x t) (t (place n q)) (x (place n q))) := by
  have hn : n.val % 4 = n.val := Nat.mod_eq_of_lt n.isLt
  have h4 : (4 + n.val) % 4 = n.val := by omega
  rw [pay15_at _ _ _ _ fun k d => (means16Of_at X T x t hX hT k d).trans (meansOf_at X T x t hX hT k d).symm]
  have e := hT ⟨4 + n.val, by omega⟩ q
  simp only [place, h4] at e
  simp only [meansOf_at X T x t hX hT, pay7_at, hX, e, place, hn]

include hX hT in
/-- What a block adds to the hinge sum of a cluster. -/
theorem hinge_block (n : Fin 4) (k : Fin 32) :
    ∑ q, hot (T (4 + n) (ix3 0 0 q)) k
        * k0_pay15 (F := Ideal) (k0_pay4 (F := Ideal) (T (4 + n))) (k0_pay7 (X n)) (meansOf X T) (means16Of X T) (ix2 0 q)
      = ∑ q, hot (t (place n q)) k * hinge (spread (mean x t) (t (place n q)) (x (place n q))) := by
  refine Finset.sum_congr rfl fun q _ => ?_
  have hn : n.val % 4 = n.val := Nat.mod_eq_of_lt n.isLt
  have h4 : (4 + n.val) % 4 = n.val := by omega
  have e := hT ⟨4 + n.val, by omega⟩ q
  simp only [place, h4] at e
  rw [hinge_at X T x t hX hT n 0 q, e]
  simp only [place, hn]

include hX hT in
/-- The hinge sums of the clusters. -/
theorem hingeAt_at (k : Fin 32) :
    hingeAt X T 4 (ix2 k 0) = ∑ p, hot (t p) k * hinge (spread (mean x t) (t p) (x p)) := by
  rw [sum_blocks]
  simp only [hingeAt, pay13_at, pay3_at]
  exact congrArg₂ (· + ·) (congrArg₂ (· + ·) (congrArg₂ (· + ·) (congrArg (0 + ·) (hinge_block X T x t hX hT 0 k))
    (hinge_block X T x t hX hT 1 k)) (hinge_block X T x t hX hT 2 k)) (hinge_block X T x t hX hT 3 k)

include hX hT in
/-- The loss of the blocks is the loss of the points. -/
theorem lossOf_at : lossOf X T (ix2 0 0) = kernelLoss x t := by
  rw [lossOf, pay14_at, pay16_at]
  simp only [col0_at, pay19_at, pay20_at, meansOf_at X T x t hX hT, hingeAt_at X T x t hX hT, cntsAt_at T t hT]
  rfl

end

end Cert.KernelIdeal.Loss

end
-- ==== Proof.Loss.Final.lean ====
/-
The kernel's result over the extended reals.
-/
module

public import proofs.«01_k».proof.Proof.Loss.Run
public import proofs.«01_k».proof.Proof.Loss.Blocks
public import Idealize.ShloMosaic.Lib.Pipeline.ValueKit

@[expose] public section

set_option maxRecDepth 16384

noncomputable section

open scoped BigOperators
open Idealize.ShloMosaic Idealize.ShloMosaic.TcCoe Idealize.SL.Sem
open Idealize.ShloMosaic.Pipeline (Dat)

namespace Cert.KernelIdeal.Loss

open Cert.KernelIdeal Cert.KernelIdeal.Gen Cert.Loss

variable (m : (ℓ : Loc nD τ sig) → Buf (Elt Ideal) ℓ)

/-- Which block of the points and of the labels a grid point reads. -/
theorem idx : ∀ t : Fin cfg0.N, win0_0.index t = ![0, if t.val < 4 then t.val else 0] ∧ win0_1.index t = ![t.val % 4, 0, 0] :=
  (by decide +kernel : ∀ t : Fin grid0.N, _)

/-- The array of points the kernel's first window is cut from, -/
theorem points_at (c : Dev nD) (d : Fin 32) (p : Fin 262144) :
    V (F := Ideal) m c main_v3 (ix2 d p) = m ((c : Thread nD τ).loc main_arg0) (ix3 0 p d) := by
  show StableHlo.after hostOps0 (fun b => m (c, b)) main_v3 (ix2 d p) = _
  entry_read
  pointwise

/-- and the array of labels its second one is cut from. -/
theorem labels_at (c : Dev nD) (b : Fin 8) (q : Fin 65536) :
    V (F := Ideal) m c main_v4 (ix3 b 0 q)
      = m ((c : Thread nD τ).loc main_arg1) (ix2 ⟨b.val / 4, by omega⟩ ⟨b.val % 4 * 65536 + q.val, by omega⟩) := by
  show StableHlo.after hostOps0 (fun b => m (c, b)) main_v4 (ix3 b 0 q) = _
  entry_read
  pointwise

/-- The points of a block of the first pass. -/
theorem xblk_at (c : Dev nD) (n : Fin 4) (d : Fin 32) (q : Fin 65536) :
    xblk (F := Ideal) m c n (ix2 d q) = m ((c : Thread nD τ).loc main_arg0) (ix3 0 ⟨n.val * 65536 + q.val, point_lt n q⟩ d) := by
  refine Eq.trans ?_ (points_at m c d _)
  unfold xblk
  have hp : (pt n.val).val = n.val := Nat.mod_eq_of_lt (by omega)
  have hn := n.isLt
  blk_ext [iblk, idx, hp]
  rw [if_pos hn]

/-- The labels of a block. -/
theorem tblk_at (c : Dev nD) (n : Fin 8) (q : Fin 65536) :
    tblk (F := Ideal) m c n (ix3 0 0 q) = m ((c : Thread nD τ).loc main_arg1) (ix2 0 (place n q)) := by
  refine Eq.trans ?_ ((labels_at m c (⟨n.val % 4, by omega⟩) q).trans ?_)
  · unfold tblk
    have hp : (pt n.val).val = n.val := Nat.mod_eq_of_lt (by omega)
    blk_ext [iblk, idx, hp]
  · have h1 : n.val % 4 / 4 = 0 := by omega
    have h2 : n.val % 4 % 4 = n.val % 4 := by omega
    simp only [h1, h2]
    rfl

/-- The last grid point. -/
def last : Fin cfg0.N := ⟨7, by rw [N_eq]; decide⟩

/-- What the output array holds after the run. -/
theorem final (c : Dev nD) : (dats m 0 c).arrAt 2 (cfgs 0).N = lossOf (xblk m c) (tblk m c) := by
  refine (dats m 0 c).arrAt_eq_of_after_last 2 last (by decide +kernel) _ fun j => ?_
  blk_simp
  rw [after_2]

/-- The result after the run is the one number of that array. -/
theorem result (c : Dev nD) :
    Pipeline.afterTail₀ cfgs (dats m) 0 (V0 m) [hostOps1] c main_v6 = fun _ => lossOf (xblk (F := Ideal) m c) (tblk m c) (ix2 0 0) := by
  show StableHlo.after hostOps1 (Pipeline.withArrays (cfgs 0).spec c (V0 m c) fun w => (dats m 0 c).arrAt w (cfgs 0).N) main_v6 = _
  entry_read
  have e : Pipeline.withArrays (cfgs 0).spec c (V0 m c) (fun w => (dats m 0 c).arrAt w (cfgs 0).N) (Proc.tc.devRef main_v5)
      = lossOf (xblk m c) (tblk m c) :=
    (Pipeline.withArrays_arr (cfgs 0).spec (by decide) c (V0 m c) (fun w => (dats m 0 c).arrAt w (cfgs 0).N) 2).trans (final m c)
  rw [e]
  funext i
  show shapeCast S_ (lossOf (xblk m c) (tblk m c)) shapeCasts_S1x1_S_ i = _
  obtain rfl : i = ix0 := funext fun a => a.elim0
  pointwise

/-- The kernel's run ends with the loss formula of its arguments. -/
theorem value (c : Dev nD) :
    Pipeline.afterTail₀ cfgs (dats m) 0 (V0 m) [hostOps1] c main_v6
      = fun _ => kernelLoss (fun p d => m ((c : Thread nD τ).loc main_arg0) (ix3 0 p d)) (fun p => m ((c : Thread nD τ).loc main_arg1) (ix2 0 p)) := by
  rw [result, lossOf_at (xblk m c) (tblk m c) (fun p d => m ((c : Thread nD τ).loc main_arg0) (ix3 0 p d))
    (fun p => m ((c : Thread nD τ).loc main_arg1) (ix2 0 p)) (xblk_at m c) (tblk_at m c)]

end Cert.KernelIdeal.Loss

end
-- ==== Proof.Loss.RefDefs.lean ====
/-
The reference's loss, cut into the arrays it is computed through.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Loss

open Cert.ReferenceIdeal Cert.ReferenceIdeal.Gen

/-- The points of the batch entry that is read. -/
def pts (X : FVec Ideal S2x262144x32 .f32) : FVec Ideal S262144x32 .f32 :=
  shapeCast _ (extractStridedSlice S1x262144x32 ![0, 0, 0] X slices_S2x262144x32_S1x262144x32_0_0_0) shapeCasts_S1x262144x32_S262144x32

/-- Their labels. -/
def labs (T : IVec S2x262144 32) : IVec S262144 32 :=
  shapeCast _ (extractStridedSlice S1x262144 ![0, 0] T slices_S2x262144_S1x262144_0_0) shapeCasts_S1x262144_S262144

/-- A word array of one value. -/
def words (w : BitVec 32) : IVec S262144 32 := broadcastInDim S262144 ![] bcast_S_S262144 (constantI S_ 32 w)

/-- The labels as one index each. -/
def column (L : IVec S262144 32) : IVec S262144x1 32 := broadcastInDim S262144x1 ![0] bcast_S262144_S262144x1_0 L

/-- The labels a negative one of which counts from the end. -/
def wrapped (L : IVec S262144 32) : IVec S262144 32 := select (cmpi .slt L (words 0#32)) (addi L (words 32#32)) L

/-- The labels with the negative ones put to zero. -/
def clipped (L : IVec S262144 32) : IVec S262144 32 := maxsi (broadcastInDim S262144 ![] bcast_S_S262144 (id (constantI S_ 32 0#32))) L

/-- The cluster sizes as words. -/
def tally (L : IVec S262144 32) : IVec S32 32 :=
  Host.scatter scatter_S32_S262144x1_S262144_n_0_0_1 IntOp.addi (broadcastInDim S32 ![] bcast_S_S32 (constantI S_ 32 0#32))
    (column (wrapped (clipped L))) (words 1#32)

/-- The cluster sizes, an empty cluster's one. -/
def sizes (L : IVec S262144 32) : FVec Ideal S32 .f32 :=
  maximumf (sitofp .f32 (tally L)) (broadcastInDim S32 ![] bcast_S_S32 (constant S_ .f32 0x3F800000#32))

/-- The cluster means. -/
def means (Y : FVec Ideal S262144x32 .f32) (L : IVec S262144 32) : FVec Ideal S32x32 .f32 :=
  Host.divf (Host.scatterAdd scatter_S32x32_S262144x1_S262144x32_1_0_0_1
      (broadcastInDim S32x32 ![] bcast_S_S32x32 (constant S_ .f32 0x00000000#32)) (column L) Y)
    (broadcastInDim S32x32 ![0, 1] bcast_S32x1_S32x32_0_1 (broadcastInDim S32x1 ![0] bcast_S32_S32x1_0 (sizes L)))

/-- Each point's own mean. -/
def owns (Y : FVec Ideal S262144x32 .f32) (L : IVec S262144 32) : FVec Ideal S262144x32 .f32 :=
  Host.gather gather_S32x32_S262144x1_S262144x32_1_0_n_n_0_1_132 (means Y L) (column (wrapped L))

/-- Each point's distance from a given place, less the radius. -/
def overs (Y O : FVec Ideal S262144x32 .f32) : FVec Ideal S262144 .f32 :=
  maximumf (subf (Host.sqrt (addf (Host.reduceAdd (mulf (subf Y O) (subf Y O)) (constant S_ .f32 0x00000000#32)
      reducesTo_S262144x32_S262144_d1 h_S_) (broadcastInDim S262144 ![] bcast_S_S262144 (constant S_ .f32 0x2B8CBCCC#32))))
      (broadcastInDim S262144 ![] bcast_S_S262144 (constant S_ .f32 0x3F000000#32)))
    (broadcastInDim S262144 ![] bcast_S_S262144 (constant S_ .f32 0x00000000#32))

/-- The hinges' sum over each cluster. -/
def pulls (L : IVec S262144 32) (V : FVec Ideal S262144 .f32) : FVec Ideal S32 .f32 :=
  Host.scatterAdd scatter_S32_S262144x1_S262144_n_0_0_1 (broadcastInDim S32 ![] bcast_S_S32 (constant S_ .f32 0x00000000#32))
    (column L) (mulf V V)

/-- The pull term. -/
def pullTerm (Q N : FVec Ideal S32 .f32) : FVec Ideal S_ .f32 :=
  Host.divf (Host.reduceAdd (Host.divf Q N) (constant S_ .f32 0x00000000#32) reducesTo_S32_S_d0 h_S_) (constant S_ .f32 0x42000000#32)

/-- The differences of the means. -/
def gaps (M : FVec Ideal S32x32 .f32) : FVec Ideal S32x32x32 .f32 :=
  subf (broadcastInDim S32x32x32 ![0, 1, 2] bcast_S32x1x32_S32x32x32_0_1_2 (broadcastInDim S32x1x32 ![0, 2] bcast_S32x32_S32x1x32_0_2 M))
    (broadcastInDim S32x32x32 ![0, 1, 2] bcast_S1x32x32_S32x32x32_0_1_2 (broadcastInDim S1x32x32 ![1, 2] bcast_S32x32_S1x32x32_1_2 M))

/-- The shortfalls of the means' distances. -/
def shorts (G : FVec Ideal S32x32x32 .f32) : FVec Ideal S32x32 .f32 :=
  maximumf (subf (broadcastInDim S32x32 ![] bcast_S_S32x32 (constant S_ .f32 0x40400000#32))
      (Host.sqrt (addf (Host.reduceAdd (mulf G G) (constant S_ .f32 0x00000000#32) reducesTo_S32x32x32_S32x32_d2 h_S_)
        (broadcastInDim S32x32 ![] bcast_S_S32x32 (constant S_ .f32 0x2B8CBCCC#32)))))
    (broadcastInDim S32x32 ![] bcast_S_S32x32 (constant S_ .f32 0x00000000#32))

/-- One off the diagonal, zero on it. -/
def offs : FVec Ideal S32x32 .f32 :=
  subf (broadcastInDim S32x32 ![] bcast_S_S32x32 (constant S_ .f32 0x3F800000#32))
    (uitofp .f32 (cmpi .eq (addi (iotaInDim S32x32 32 0) (broadcastInDim S32x32 ![] bcast_S_S32x32 (constantI S_ 32 0#32))) (iotaInDim S32x32 32 1)))

/-- The push term. -/
def pushTerm (H : FVec Ideal S32x32 .f32) : FVec Ideal S_ .f32 :=
  Host.divf (Host.reduceAdd (mulf (mulf H H) offs) (constant S_ .f32 0x00000000#32) reducesTo_S32x32_S_d0_1 h_S_)
    (constant S_ .f32 0x44780000#32)

/-- The regularization term. -/
def regTerm (M : FVec Ideal S32x32 .f32) : FVec Ideal S_ .f32 :=
  Host.divf (Host.reduceAdd (Host.sqrt (addf (Host.reduceAdd (mulf M M) (constant S_ .f32 0x00000000#32) reducesTo_S32x32_S32_d1 h_S_)
      (broadcastInDim S32 ![] bcast_S_S32 (constant S_ .f32 0x2B8CBCCC#32)))) (constant S_ .f32 0x00000000#32) reducesTo_S32_S_d0 h_S_)
    (constant S_ .f32 0x42000000#32)

/-- The loss. -/
def loss (X : FVec Ideal S2x262144x32 .f32) (T : IVec S2x262144 32) : FVec Ideal S_ .f32 :=
  addf (addf
      (mulf (constant S_ .f32 0x3F800000#32)
        (pullTerm (pulls (labs T) (overs (pts X) (owns (pts X) (labs T)))) (sizes (labs T))))
      (mulf (constant S_ .f32 0x3F800000#32) (pushTerm (shorts (gaps (means (pts X) (labs T)))))))
    (mulf (constant S_ .f32 0x3A83126F#32) (regTerm (means (pts X) (labs T))))

/-- The reference's result is this loss of its arguments. -/
theorem result_eq (m : (ℓ : Loc nD τ sig) → Buf (Elt Ideal) ℓ) (c : Dev nD) :
    Value.res_out0 (F := Ideal) m c
      = loss (m ((c.tc : Thread nD τ).loc main_arg0)) (m ((c.tc : Thread nD τ).loc main_arg1)) := rfl

end Cert.ReferenceIdeal.Loss

end
-- ==== Proof.Loss.RefIdx.lean ====
/-
Where the reference's scatters and its gather read and write.
-/
module

public import proofs.«01_k».proof.Proof.Loss.RefDefs
public import proofs.«01_k».proof.Proof.Loss.Spec
public import Idealize.ShloMosaic.Lib.Routing.Ops
public import Idealize.ShloMosaic.Lib.Routing.OpsPair

@[expose] public section

set_option maxRecDepth 16384

noncomputable section

open scoped BigOperators
open Idealize.ShloMosaic Idealize.ShloMosaic.TcCoe Idealize.SL.Sem

namespace Cert.ReferenceIdeal.Loss

open Cert.ReferenceIdeal Cert.ReferenceIdeal.Gen

/-- The scatter of one number per point: the place is the point's index word. -/
theorem start1 (p : Fin 262144) (idx : IVec S262144x1 32) :
    scatter_S32_S262144x1_S262144_n_0_0_1.start (ix1 p) idx 0 = (idx (ix2 p 0)).toInt := by
  unfold ScatterDims.start
  rw [dif_pos (by exact List.mem_singleton.2 rfl)]
  refine congrArg (fun i => (idx i).toInt) (funext fun b => Fin.ext ?_)
  match b with
  | ⟨0, _⟩ => rfl
  | ⟨1, _⟩ => rfl

/-- The place of an entry within the row it lands in is zero. -/
theorem window1 (p : Fin 262144) : scatter_S32_S262144x1_S262144_n_0_0_1.window (ix1 p) 0 = 0 := rfl

/-- The scatter of one row per point: the row's place is the point's index word. -/
theorem start2 (p : Fin 262144) (d : Fin 32) (idx : IVec S262144x1 32) :
    scatter_S32x32_S262144x1_S262144x32_1_0_0_1.start (ix2 p d) idx 0 = (idx (ix2 p 0)).toInt := by
  unfold ScatterDims.start
  rw [dif_pos (by exact List.mem_singleton.2 rfl)]
  refine congrArg (fun i => (idx i).toInt) (funext fun b => Fin.ext ?_)
  match b with
  | ⟨0, _⟩ => rfl
  | ⟨1, _⟩ => rfl

/-- An entry of a row lands from column zero on, -/
theorem start2' (p : Fin 262144) (d : Fin 32) (idx : IVec S262144x1 32) :
    scatter_S32x32_S262144x1_S262144x32_1_0_0_1.start (ix2 p d) idx 1 = 0 := rfl
/-- in the row itself, -/
theorem window2 (p : Fin 262144) (d : Fin 32) : scatter_S32x32_S262144x1_S262144x32_1_0_0_1.window (ix2 p d) 0 = 0 := rfl
/-- at its own column. -/
theorem window2' (p : Fin 262144) (d : Fin 32) : scatter_S32x32_S262144x1_S262144x32_1_0_0_1.window (ix2 p d) 1 = d.val := rfl

/-- A word read signed is a cluster's number exactly when it is that number's word. -/
theorem toInt_eq_iff (w : BitVec 32) (k : Fin 32) : w.toInt = (k.val : ℤ) ↔ w = BitVec.ofNat 32 k := by
  have e : (BitVec.ofNat 32 k.val).toInt = (k.val : ℤ) := by
    revert k; decide
  rw [← e]
  exact BitVec.toInt_inj

/-- Point p's number lands in cluster k exactly when its index is k. -/
theorem lands1 (idx : IVec S262144x1 32) (p : Fin 262144) (k : Fin 32) :
    scatter_S32_S262144x1_S262144_n_0_0_1.resultIdx? (ix1 p) idx = some (ix1 k) ↔ idx (ix2 p 0) = BitVec.ofNat 32 k := by
  refine (Routing.resultIdx?_ix1 _ _ _ _).trans ?_
  rw [start1, window1, Nat.cast_zero, add_zero, toInt_eq_iff]

/-- Entry (p, d) lands at (k, e) exactly when p's index is k and d is e. -/
theorem lands2 (idx : IVec S262144x1 32) (p : Fin 262144) (d k e : Fin 32) :
    scatter_S32x32_S262144x1_S262144x32_1_0_0_1.resultIdx? (ix2 p d) idx = some (ix2 k e)
      ↔ idx (ix2 p 0) = BitVec.ofNat 32 k ∧ d = e := by
  refine (Routing.resultIdx?_ix2 _ _ _ _ _).trans ?_
  rw [start2, window2, start2', window2', Nat.cast_zero, add_zero, zero_add, toInt_eq_iff]
  exact and_congr_right fun _ => ⟨fun h => Fin.ext (by exact_mod_cast h), fun h => by rw [h]⟩

/-- The scatter of one number per point sums the numbers of each cluster. -/
theorem scatter1_at (x : FVec Ideal S32 .f32) (idx : IVec S262144x1 32) (u : FVec Ideal S262144 .f32) (k : Fin 32) :
    Host.scatterAdd scatter_S32_S262144x1_S262144_n_0_0_1 x idx u (ix1 k)
      = x (ix1 k) + ∑ p : Fin 262144, if idx (ix2 p 0) = BitVec.ofNat 32 k then u (ix1 p) else 0 := by
  show Ideal.hostScatterAdd _ x idx u (ix1 k) = _
  unfold Ideal.hostScatterAdd
  rw [Finset.sum_filter, sum_idx1]
  refine congrArg _ (Finset.sum_congr rfl fun p _ => ?_)
  simp only [lands1]

/-- The scatter of one row per point sums the rows of each cluster. -/
theorem scatter2_at (x : FVec Ideal S32x32 .f32) (idx : IVec S262144x1 32) (u : FVec Ideal S262144x32 .f32) (k e : Fin 32) :
    Host.scatterAdd scatter_S32x32_S262144x1_S262144x32_1_0_0_1 x idx u (ix2 k e)
      = x (ix2 k e) + ∑ p : Fin 262144, if idx (ix2 p 0) = BitVec.ofNat 32 k then u (ix2 p e) else 0 := by
  show Ideal.hostScatterAdd _ x idx u (ix2 k e) = _
  unfold Ideal.hostScatterAdd
  rw [Finset.sum_filter, sum_idx2]
  refine congrArg _ (Finset.sum_congr rfl fun p _ => ?_)
  simp only [lands2]
  rw [Finset.sum_eq_single e]
  · simp
  · intro d _ hd; rw [if_neg fun h => hd h.2]
  · intro h; exact absurd (Finset.mem_univ e) h

/-- Adding one at every position that has a property counts them. -/
theorem foldl_ones {α : Type} (q : α → Prop) [DecidablePred q] (l : List α) (n : ℕ) :
    l.foldl (fun a i => if q i then IntOp.addi a 1#32 else a) (BitVec.ofNat 32 n)
      = BitVec.ofNat 32 (n + l.countP fun i => q i) := by
  induction l generalizing n with
  | nil => rfl
  | cons i l ih =>
    rw [List.foldl_cons, List.countP_cons]
    by_cases h : q i
    · rw [if_pos h, show IntOp.addi (BitVec.ofNat 32 n) 1#32 = BitVec.ofNat 32 (n + 1) from (BitVec.ofNat_add ..).symm, ih]
      simp only [h, decide_true, if_true]
      congr 1; omega
    · rw [if_neg h, ih]
      simp [h]

/-- The number of places of a list of all positions that have a property. -/
theorem countP_all {N : ℕ} (q : Fin N → Prop) [DecidablePred q] (n : ℕ) (h : n = N) (f : Fin n → Fin N) (hf : ∀ i, (f i).val = i.val) :
    (List.finRange n).countP (fun i => q (f i)) = (Finset.univ.filter q).card := by
  subst h
  have : f = id := funext fun i => Fin.ext (hf i)
  subst this
  rw [List.countP_eq_length_filter, ← List.toFinset_card_of_nodup ((List.nodup_finRange _).filter _)]
  congr 1
  ext i; simp

/-- The scatter of ones into zeros counts the points of each cluster. -/
theorem count_at (idx : IVec S262144x1 32) (k : Fin 32) :
    Host.scatter scatter_S32_S262144x1_S262144_n_0_0_1 IntOp.addi (broadcastInDim S32 ![] bcast_S_S32 (constantI S_ 32 0#32))
        idx (words 1#32) (ix1 k)
      = BitVec.ofNat 32 (Finset.univ.filter fun p : Fin 262144 => idx (ix2 p 0) = BitVec.ofNat 32 k).card := by
  refine (Routing.scatter_at ..).trans ?_
  have hn : S262144.numel = 262144 := by decide
  have hs : ∀ n : Fin S262144.numel, S262144.rowMajor.symm n = ix1 (⟨n.val, hn ▸ n.isLt⟩ : Fin 262144) := fun n =>
    (S262144.rowMajor.symm_apply_eq).2 (Fin.ext (by rw [Shape.rowMajor_val_one]; rfl))
  have e : (fun (a : BitVec 32) (n : Fin S262144.numel) =>
        if scatter_S32_S262144x1_S262144_n_0_0_1.resultIdx? (S262144.rowMajor.symm n) idx = some (ix1 k)
          then IntOp.addi a (words 1#32 (S262144.rowMajor.symm n)) else a)
      = fun a n => if idx (ix2 (⟨n.val, hn ▸ n.isLt⟩ : Fin 262144) 0) = BitVec.ofNat 32 k then IntOp.addi a 1#32 else a := by
    funext a n
    rw [hs n]
    simp only [lands1]
    rfl
  rw [e]
  refine (foldl_ones (fun n : Fin S262144.numel => idx (ix2 (⟨n.val, hn ▸ n.isLt⟩ : Fin 262144) 0) = BitVec.ofNat 32 k) _ 0).trans ?_
  rw [Nat.zero_add]
  exact congrArg _ (countP_all (fun p => idx (ix2 p 0) = BitVec.ofNat 32 k) _ hn _ fun _ => rfl)

/-- Where a point's index is a cluster's number, the gather reads that cluster's row. -/
theorem gather_at (x : FVec Ideal S32x32 .f32) (idx : IVec S262144x1 32) (p : Fin 262144) (d k : Fin 32)
    (h : idx (ix2 p 0) = BitVec.ofNat 32 k) :
    Host.gather gather_S32x32_S262144x1_S262144x32_1_0_n_n_0_1_132 x idx (ix2 p d) = x (ix2 k d) :=
  Routing.gather_row (nb := 32) (B := 32) (n := 262144) gather_S32x32_S262144x1_S262144x32_1_0_n_n_0_1_132 rfl rfl rfl rfl rfl x idx p d k h (by decide)

end Cert.ReferenceIdeal.Loss

end
-- ==== Proof.Loss.Equation.lean ====
/-
The two losses are equal, whatever the points and the labels.
-/
module

public import proofs.«01_k».proof.Proof.Loss.Spec

@[expose] public section

noncomputable section

open scoped BigOperators
open Idealize.ShloMosaic

namespace Cert.Loss

/-! ## The constants -/

/-- The constants as real numbers: one half, -/
theorem half_eq : half = ((1 / 2 : ℝ) : EReal) := by
  simp [half, Ideal.ofBits, Ideal.ieee, -EReal.coe_mul]; norm_num

/-- two, -/
theorem two_eq : two = ((2 : ℝ) : EReal) := by
  simp [two, Ideal.ofBits, Ideal.ieee, -EReal.coe_mul]; norm_num

/-- three, -/
theorem three_eq : three = ((3 : ℝ) : EReal) := by
  simp [three, Ideal.ofBits, Ideal.ieee, -EReal.coe_mul]; norm_num

/-- thirty-two, -/
theorem clusters_eq : clusters = ((32 : ℝ) : EReal) := by
  simp [clusters, Ideal.ofBits, Ideal.ieee, -EReal.coe_mul]; norm_num

/-- and 32 · 31. -/
theorem pairs_eq : pairs = ((992 : ℝ) : EReal) := by
  simp [pairs, Ideal.ofBits, Ideal.ieee, -EReal.coe_mul]; norm_num

/-- The small number is a nonnegative real. -/
theorem eps_eq : ∃ e : ℝ, 0 ≤ e ∧ eps = (e : EReal) := by
  refine ⟨(2 : ℝ) ^ (-40 : ℤ) * (9223372 / 8388608), by positivity, ?_⟩
  simp [eps, Ideal.ofBits, Ideal.ieee, -EReal.coe_mul]; norm_num

/-! ## Sums over the extended reals -/

/-- The sum of reals is a real. -/
theorem sum_coe {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum without minus infinity is not minus infinity. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    have h1 := h a (Finset.mem_insert_self a s)
    have h2 := ih fun i hi => h i (Finset.mem_insert_of_mem hi)
    simp [EReal.add_eq_bot_iff, h1, h2]

/-- Minus infinity absorbs a sum. -/
theorem sum_eq_bot {ι : Type} (s : Finset ι) (f : ι → EReal) {i : ι} (hi : i ∈ s) (h : f i = ⊥) : ∑ i ∈ s, f i = ⊥ := by
  classical
  rw [← Finset.add_sum_erase s f hi, h, EReal.bot_add]

/-- Plus infinity absorbs a sum without minus infinity. -/
theorem sum_eq_top {ι : Type} (s : Finset ι) (f : ι → EReal) {i : ι} (hi : i ∈ s) (h : f i = ⊤)
    (hb : ∀ i ∈ s, f i ≠ ⊥) : ∑ i ∈ s, f i = ⊤ := by
  classical
  rw [← Finset.add_sum_erase s f hi, h]
  exact EReal.top_add_of_ne_bot (sum_ne_bot _ _ fun j hj => hb j (Finset.mem_of_mem_erase hj))

/-- A sum that is finite has finite terms. -/
theorem finite_of_sum {ι : Type} (s : Finset ι) (f : ι → EReal) (ht : ∑ i ∈ s, f i ≠ ⊤) (hb : ∑ i ∈ s, f i ≠ ⊥)
    (i : ι) (hi : i ∈ s) : f i ≠ ⊤ ∧ f i ≠ ⊥ := by
  have h : ∀ j ∈ s, f j ≠ ⊥ := fun j hj e => hb (sum_eq_bot s f hj e)
  exact ⟨fun e => ht (sum_eq_top s f hi e h), h i hi⟩

/-- A number that is at least zero is not minus infinity. -/
theorem ne_bot_of_nonneg {a : EReal} (h : 0 ≤ a) : a ≠ ⊥ := fun e => by simp [e] at h

/-- A square is at least zero. -/
theorem mul_self_nonneg' (a : EReal) : 0 ≤ a * a := by
  rcases le_total 0 a with h | h
  · exact mul_nonneg h h
  · exact EReal.mul_nonneg_iff.2 (.inr ⟨h, h⟩)

/-- The square of an infinity is plus infinity. -/
theorem mul_self_infinite {a : EReal} (h : a = ⊤ ∨ a = ⊥) : a * a = ⊤ := by
  rcases h with rfl | rfl <;> simp

/-- An extended real is an infinity or a real. -/
theorem finite_or (a : EReal) : (a = ⊤ ∨ a = ⊥) ∨ ∃ r : ℝ, a = r := by
  induction a using EReal.rec with
  | bot => exact .inl (.inr rfl)
  | top => exact .inl (.inl rfl)
  | coe r => exact .inr ⟨r, rfl⟩

/-! ## Scalar products and distances -/

/-- A squared norm is at least zero. -/
theorem dot_self_nonneg (a : Fin 32 → EReal) : 0 ≤ dot a a := Finset.sum_nonneg fun d _ => mul_self_nonneg' _

/-- A squared distance is at least zero. -/
theorem dist2_nonneg (a b : Fin 32 → EReal) : 0 ≤ dist2 a b := Finset.sum_nonneg fun d _ => mul_self_nonneg' _

/-- A vector with an infinite entry has an infinite squared norm. -/
theorem dot_self_infinite {a : Fin 32 → EReal} {d : Fin 32} (h : a d = ⊤ ∨ a d = ⊥) : dot a a = ⊤ :=
  sum_eq_top _ _ (Finset.mem_univ d) (mul_self_infinite h) fun _ _ => ne_bot_of_nonneg (mul_self_nonneg' _)

/-- It is at infinite distance from every vector. -/
theorem dist2_infinite {a b : Fin 32 → EReal} {d : Fin 32} (h : b d = ⊤ ∨ b d = ⊥) : dist2 a b = ⊤ := by
  refine sum_eq_top _ _ (Finset.mem_univ d) (mul_self_infinite ?_) fun _ _ => ne_bot_of_nonneg (mul_self_nonneg' _)
  rcases h with h | h
  · right; rw [h, sub_eq_add_neg, EReal.neg_top, EReal.add_bot]
  · rw [h, sub_eq_add_neg, EReal.neg_bot]
    by_cases e : a d = ⊥
    · right; rw [e, EReal.bot_add]
    · left; exact EReal.add_top_of_ne_bot e

/-- The scalar product of real vectors is the real one. -/
theorem dot_coe (a b : Fin 32 → ℝ) : dot (fun d => (a d : EReal)) (fun d => (b d : EReal)) = ((∑ d, a d * b d : ℝ) : EReal) := by
  rw [dot, ← sum_coe]; exact Finset.sum_congr rfl fun d _ => (EReal.coe_mul _ _).symm

/-- The squared distance of real vectors is the real one. -/
theorem dist2_coe (a b : Fin 32 → ℝ) :
    dist2 (fun d => (a d : EReal)) (fun d => (b d : EReal)) = ((∑ d, (a d - b d) * (a d - b d) : ℝ) : EReal) := by
  rw [dist2, ← sum_coe]
  exact Finset.sum_congr rfl fun d _ => by rw [EReal.coe_mul, EReal.coe_sub]

/-- The expanded squared distance of two real vectors is their squared distance. -/
theorem apart_coe (a b : Fin 32 → ℝ) :
    apart (fun d => (a d : EReal)) (fun d => (b d : EReal)) = dist2 (fun d => (a d : EReal)) (fun d => (b d : EReal)) := by
  rw [apart, dot_coe, dot_coe, dot_coe, dist2_coe, two_eq, ← EReal.coe_add, ← EReal.coe_mul, ← EReal.coe_sub]
  have e : (∑ d, a d * a d) + (∑ d, b d * b d) - 2 * (∑ d, a d * b d) = ∑ d, (a d - b d) * (a d - b d) := by
    rw [Finset.mul_sum, ← Finset.sum_add_distrib, ← Finset.sum_sub_distrib]
    exact Finset.sum_congr rfl fun d _ => by ring
  rw [e]
  exact max_eq_left (by exact_mod_cast Finset.sum_nonneg fun d _ => mul_self_nonneg (a d - b d))

/-! ## Words -/

/-- Different clusters have different words. -/
theorem ofNat_inj {a b : Fin 32} (h : BitVec.ofNat 32 a = BitVec.ofNat 32 b) : a = b := by
  have := congrArg BitVec.toNat h
  simp only [BitVec.toNat_ofNat] at this
  omega

/-- Of the sum over the clusters only the point's own term is left. -/
theorem sum_own (k : Fin 32) (f : Fin 32 → EReal) :
    (∑ j : Fin 32, if BitVec.ofNat 32 k = BitVec.ofNat 32 (j : ℕ) then f j else 0) = f k := by
  rw [Finset.sum_eq_single k]
  · rw [if_pos rfl]
  · intro j _ hj; rw [if_neg]; intro h; exact hj (ofNat_inj h).symm
  · intro h; exact absurd (Finset.mem_univ k) h

/-! ## One point -/

/-- A point whose coordinates are finite as soon as its mean's are: the kernel's squared distance is the reference's. -/
theorem spread_eq (m : Fin 32 → Fin 32 → EReal) (k : Fin 32) (v : Fin 32 → EReal)
    (h : (∀ d, ∃ r : ℝ, m k d = r) → ∀ d, ∃ r : ℝ, v d = r) :
    spread m (BitVec.ofNat 32 k) v = dist2 v (m k) := by
  rw [spread, sum_own k fun j => dot (m j) v - half * dot (m j) (m j)]
  by_cases hm : ∀ d, ∃ r : ℝ, m k d = r
  · obtain ⟨a, ha⟩ := Classical.skolem.1 hm
    obtain ⟨b, hb⟩ := Classical.skolem.1 (h hm)
    have ea : m k = fun d => (a d : EReal) := funext ha
    have eb : v = fun d => (b d : EReal) := funext hb
    rw [ea, eb, dot_coe, dot_coe, dot_coe, dist2_coe, two_eq, half_eq, ← EReal.coe_mul, ← EReal.coe_sub, ← EReal.coe_mul,
      ← EReal.coe_sub]
    have e : (∑ d, b d * b d) - 2 * ((∑ d, a d * b d) - 1 / 2 * ∑ d, a d * a d) = ∑ d, (b d - a d) * (b d - a d) := by
      have : (∑ d, (b d - a d) * (b d - a d)) = (∑ d, b d * b d) - 2 * (∑ d, a d * b d) + ∑ d, a d * a d := by
        rw [Finset.mul_sum, ← Finset.sum_sub_distrib, ← Finset.sum_add_distrib]
        exact Finset.sum_congr rfl fun d _ => by ring
      rw [this]; ring
    rw [e]
    exact max_eq_left (by exact_mod_cast Finset.sum_nonneg fun d _ => mul_self_nonneg (b d - a d))
  · obtain ⟨d, hd⟩ := not_forall.1 hm
    have hi : m k d = ⊤ ∨ m k d = ⊥ := (finite_or _).resolve_right hd
    rw [dist2_infinite hi, dot_self_infinite hi, half_eq, two_eq,
      EReal.coe_mul_top_of_pos (by norm_num), sub_eq_add_neg (dot (m k) v), EReal.neg_top, EReal.add_bot,
      EReal.coe_mul_bot_of_pos (by norm_num), sub_eq_add_neg, EReal.neg_bot,
      EReal.add_top_of_ne_bot (ne_bot_of_nonneg (dot_self_nonneg v))]
    exact max_eq_left le_top

/-! ## Hinges -/

/-- A hinge is at least zero. -/
theorem hinge_nonneg (s : EReal) : 0 ≤ hinge s := mul_self_nonneg' _

/-- A push is at least zero. -/
theorem push_nonneg (s : EReal) : 0 ≤ push s := mul_self_nonneg' _

/-- The hinge at infinite distance is plus infinity. -/
theorem hinge_top : hinge ⊤ = ⊤ := by
  obtain ⟨e, -, he⟩ := eps_eq
  rw [hinge, he, EReal.top_add_coe, Ideal.sqrt_top, half_eq, EReal.top_sub_coe, max_eq_left le_top, EReal.top_mul_top]

/-! ## Divisions -/

/-- A quotient by a positive real, of something nonnegative, is nonnegative. -/
theorem div_nonneg' {a : EReal} (ha : 0 ≤ a) {r : ℝ} (hr : 0 < r) : 0 ≤ Ideal.div a (r : EReal) := by
  rw [Ideal.div_coe hr.ne']
  exact mul_nonneg ha (by exact_mod_cast (one_div_pos.2 hr).le)

/-- Plus infinity divided by a positive real is plus infinity. -/
theorem div_top {r : ℝ} (hr : 0 < r) : Ideal.div ⊤ (r : EReal) = ⊤ := by
  rw [Ideal.div_coe hr.ne']
  exact EReal.top_mul_coe_of_pos (one_div_pos.2 hr)

/-- Zero divided by a positive real is zero. -/
theorem div_zero' {r : ℝ} (hr : 0 < r) : Ideal.div 0 (r : EReal) = 0 := by
  rw [Ideal.div_coe hr.ne', zero_mul]

/-- A finite quotient by a positive real has a finite numerator. -/
theorem finite_of_div {a : EReal} {r : ℝ} (hr : 0 < r) (h : ∃ q : ℝ, Ideal.div a (r : EReal) = q) : a ≠ ⊤ ∧ a ≠ ⊥ := by
  obtain ⟨q, hq⟩ := h
  rw [Ideal.div_coe hr.ne'] at hq
  constructor
  · rintro rfl
    rw [EReal.top_mul_coe_of_pos (one_div_pos.2 hr)] at hq
    exact EReal.top_ne_coe _ hq
  · rintro rfl
    rw [EReal.bot_mul_coe_of_pos (one_div_pos.2 hr)] at hq
    exact EReal.bot_ne_coe _ hq

section Data

variable {P : Type} [Fintype P] (x : P → Fin 32 → EReal) (t : P → BitVec 32)

/-- The denominator is a real at least one. -/
theorem den_eq (k : Fin 32) : ∃ r : ℝ, 1 ≤ r ∧ den t k = r := by
  refine ⟨max (∑ p, if t p = BitVec.ofNat 32 k then (1 : ℝ) else 0) 1, le_max_right _ _, ?_⟩
  rw [den, size, EReal.coe_strictMono.monotone.map_max, ← sum_coe]
  refine congrArg₂ max (Finset.sum_congr rfl fun p _ => ?_) rfl
  rw [hot]; split <;> simp

/-- The hot entry times a value is the value or nothing. -/
theorem hot_mul (w : BitVec 32) (k : ℕ) (a : EReal) : hot w k * a = if w = BitVec.ofNat 32 k then a else 0 := by
  rw [hot]; split <;> simp

/-- When a cluster's mean is finite, so are its points. -/
theorem finite_point (k : Fin 32) (p : P) (hp : t p = BitVec.ofNat 32 k) (h : ∀ d, ∃ r : ℝ, mean x t k d = r) (d : Fin 32) :
    ∃ r : ℝ, x p d = r := by
  obtain ⟨r, hr, e⟩ := den_eq t k
  have hd := h d
  rw [mean, e] at hd
  obtain ⟨h1, h2⟩ := finite_of_div (by linarith) hd
  obtain ⟨h3, h4⟩ := finite_of_sum _ _ h1 h2 p (Finset.mem_univ p)
  rw [hot_mul, if_pos hp] at h3 h4
  rcases finite_or (x p d) with (h5 | h5) | h5
  · exact absurd h5 h3
  · exact absurd h5 h4
  · exact h5

/-- A cluster whose mean is not finite has a point. -/
theorem exists_point (k d : Fin 32) (h : mean x t k d = ⊤ ∨ mean x t k d = ⊥) : ∃ p, t p = BitVec.ofNat 32 k := by
  by_contra hn
  have hn := not_exists.1 hn
  obtain ⟨r, hr, e⟩ := den_eq t k
  have h0 : mean x t k d = 0 := by
    rw [mean, e, Finset.sum_eq_zero fun p _ => by rw [hot_mul, if_neg (hn p)]]
    exact div_zero' (by linarith)
  rw [h0] at h
  simp at h

/-- One point of a cluster adds the same to both losses. -/
theorem term_eq (k : Fin 32) (p : P) :
    hot (t p) k * hinge (spread (mean x t) (t p) (x p))
      = if t p = BitVec.ofNat 32 k then hinge (dist2 (x p) (mean x t k)) else 0 := by
  rw [hot_mul]
  split
  · next h => rw [h, spread_eq _ _ _ (finite_point x t k p h)]
  · rfl

/-- One less the diagonal is at least zero. -/
theorem diag_coe_nonneg (i j : Fin 32) : (0 : EReal) ≤ 1 - diag i j := by
  have h0 : (0 : EReal) ≤ 1 - 1 := by
    rw [← EReal.coe_one, ← EReal.coe_sub, sub_self]; exact le_rfl
  have h1 : (0 : EReal) ≤ 1 - 0 := by simp
  rw [diag]; split
  · exact h0
  · exact h1

/-- The push term is nonnegative, however the distances are computed. -/
theorem push_term_nonneg (f : Fin 32 → Fin 32 → EReal) :
    0 ≤ Ideal.div (∑ i, ∑ j, push (f i j) * (1 - diag i j)) pairs := by
  rw [pairs_eq]
  exact div_nonneg' (Finset.sum_nonneg fun i _ => Finset.sum_nonneg fun j _ => mul_nonneg (push_nonneg _) (diag_coe_nonneg i j))
    (by norm_num)

/-- If some mean is not finite, the pull term is infinite. -/
theorem pull_top (k d : Fin 32) (h : mean x t k d = ⊤ ∨ mean x t k d = ⊥) :
    Ideal.div (∑ k : Fin 32, Ideal.div (∑ p, if t p = BitVec.ofNat 32 k then hinge (dist2 (x p) (mean x t k)) else 0)
      (den t k)) clusters = ⊤ := by
  obtain ⟨p, hp⟩ := exists_point x t k d h
  have nn : ∀ (k : Fin 32) (p : P),
      0 ≤ if t p = BitVec.ofNat 32 k then hinge (dist2 (x p) (mean x t k)) else 0 := fun k p => by
    split
    · exact hinge_nonneg _
    · exact le_rfl
  have e : (∑ k : Fin 32, Ideal.div (∑ p, if t p = BitVec.ofNat 32 k then hinge (dist2 (x p) (mean x t k)) else 0)
      (den t k)) = ⊤ := by
    refine sum_eq_top _ _ (Finset.mem_univ k) ?_ fun j _ => ?_
    · obtain ⟨r, hr, er⟩ := den_eq t k
      rw [er, sum_eq_top _ _ (Finset.mem_univ p) ?_ fun q _ => ne_bot_of_nonneg (nn k q)]
      · exact div_top (by linarith)
      · rw [if_pos hp, dist2_infinite h, hinge_top]
    · obtain ⟨r, hr, er⟩ := den_eq t j
      rw [er]
      exact ne_bot_of_nonneg (div_nonneg' (Finset.sum_nonneg fun q _ => nn j q) (by linarith))
  rw [e, clusters_eq]
  exact div_top (by norm_num)

/-- The kernel's loss is the reference's. -/
theorem kernelLoss_eq : kernelLoss x t = referenceLoss x t := by
  have e : ∀ k : Fin 32, (∑ p, hot (t p) k * hinge (spread (mean x t) (t p) (x p)))
      = ∑ p, if t p = BitVec.ofNat 32 k then hinge (dist2 (x p) (mean x t k)) else 0 :=
    fun k => Finset.sum_congr rfl fun p _ => term_eq x t k p
  rw [kernelLoss, referenceLoss]
  simp only [e]
  by_cases hm : ∀ k d, ∃ r : ℝ, mean x t k d = r
  · have e2 : ∀ i j, apart (mean x t i) (mean x t j) = dist2 (mean x t i) (mean x t j) := fun i j => by
      obtain ⟨a, ha⟩ := Classical.skolem.1 (hm i)
      obtain ⟨b, hb⟩ := Classical.skolem.1 (hm j)
      rw [funext ha, funext hb, apart_coe]
    simp only [e2]
  · obtain ⟨k, hk⟩ := not_forall.1 hm
    obtain ⟨d, hd⟩ := not_forall.1 hk
    rw [pull_top x t k d ((finite_or _).resolve_right hd),
      EReal.top_add_of_ne_bot (ne_bot_of_nonneg (push_term_nonneg _)),
      EReal.top_add_of_ne_bot (ne_bot_of_nonneg (push_term_nonneg _))]

end Data

end Cert.Loss

end
-- ==== Proof.Loss.RefValue.lean ====
/-
The reference's loss is the formula, when no label is negative.
-/
module

public import proofs.«01_k».proof.Proof.Loss.RefIdx
public import proofs.«01_k».proof.Proof.Loss.Equation

@[expose] public section

set_option maxRecDepth 16384

noncomputable section

open scoped BigOperators
open Idealize.ShloMosaic Idealize.ShloMosaic.TcCoe Idealize.SL.Sem

namespace Cert.ReferenceIdeal.Loss

open Cert.ReferenceIdeal Cert.ReferenceIdeal.Gen Cert.Loss

/-- The points are those of batch entry 0, -/
theorem pts_at (X : FVec Ideal S2x262144x32 .f32) (p : Fin 262144) (d : Fin 32) : pts X (ix2 p d) = X (ix3 0 p d) := by
  pointwise [pts]

/-- and so are the labels. -/
theorem labs_at (T : IVec S2x262144 32) (p : Fin 262144) : labs T (ix1 p) = T (ix2 0 p) := by
  pointwise [labs]

/-- An array of one value holds that value. -/
theorem words_at (w : BitVec 32) (p : Fin 262144) : words w (ix1 p) = w := rfl

/-- The index of a point is its label. -/
theorem column_at (L : IVec S262144 32) (p : Fin 262144) : column L (ix2 p 0) = L (ix1 p) := by
  pointwise [column]

/-- A label that is not negative is not moved. -/
theorem wrapped_at (L : IVec S262144 32) (p : Fin 262144) (h : 0 ≤ (L (ix1 p)).toInt) : wrapped L (ix1 p) = L (ix1 p) := by
  pointwise [wrapped, words]
  generalize L (ix1 p) = w at h ⊢
  have : IntOp.cmpi .slt w 0#32 = 0#1 := by
    simp only [IntOp.cmpi, BitVec.slt_eq_decide, BitVec.toInt_zero]
    rw [decide_eq_false (by omega)]; rfl
  rw [this]; rfl

/-- A label that is not negative is not clipped. -/
theorem clipped_at (L : IVec S262144 32) (p : Fin 262144) (h : 0 ≤ (L (ix1 p)).toInt) : clipped L (ix1 p) = L (ix1 p) := by
  pointwise [clipped]
  generalize L (ix1 p) = w at h ⊢
  show IntOp.maxsi 0#32 w = w
  simp only [IntOp.maxsi, BitVec.slt_eq_decide, BitVec.toInt_zero]
  by_cases h0 : 0 < w.toInt
  · simp [h0]
    intro h'; omega
  · have : w = 0#32 := BitVec.eq_of_toInt_eq (by rw [BitVec.toInt_zero]; omega)
    subst this; simp

/-- The size of a cluster is the number of its points. -/
theorem card_hot (t : Fin 262144 → BitVec 32) (k : Fin 32) :
    size t k = (((Finset.univ.filter fun p => t p = BitVec.ofNat 32 k).card : ℝ) : EReal) := by
  have e : ∀ p, hot (t p) k = (((if t p = BitVec.ofNat 32 k then 1 else 0 : ℝ)) : EReal) := fun p => by
    rw [hot]; split <;> simp
  simp only [size, e]
  rw [sum_coe]
  exact congrArg _ (Finset.sum_boole ..)

/-- A number of points is kept by its word. -/
theorem word_number (n : ℕ) (h : n ≤ 262144) : (FloatOps.sitofp (F := Ideal) .f32 (BitVec.ofNat 32 n) : EReal) = ((n : ℝ) : EReal) := by
  show ((((BitVec.ofNat 32 n).toInt : ℤ) : ℝ) : EReal) = _
  have : (BitVec.ofNat 32 n).toInt = (n : ℤ) := by
    rw [BitVec.toInt_eq_toNat_of_lt] <;> rw [BitVec.toNat_ofNat] <;> omega
  rw [this]; simp

section

variable (L : IVec S262144 32) (hL : ∀ p : Fin 262144, 0 ≤ (L (ix1 p)).toInt)

include hL in
/-- The cluster sizes. -/
theorem sizes_at (k : Fin 32) : sizes L (ix1 k) = den (fun p => L (ix1 p)) k := by
  have e : ∀ p : Fin 262144, column (wrapped (clipped L)) (ix2 p 0) = L (ix1 p) := fun p => by
    rw [column_at, wrapped_at _ _ (by rw [clipped_at _ _ (hL p)]; exact hL p), clipped_at _ _ (hL p)]
  have ht : tally L (ix1 k) = BitVec.ofNat 32 (Finset.univ.filter fun p : Fin 262144 => L (ix1 p) = BitVec.ofNat 32 k).card := by
    rw [tally, count_at]
    simp only [e]
  have hc : (Finset.univ.filter fun p : Fin 262144 => L (ix1 p) = BitVec.ofNat 32 k).card ≤ 262144 :=
    (Finset.card_le_univ _).trans_eq (Fintype.card_fin _)
  pointwise [sizes]
  rw [ht, word_number _ hc, ← card_hot]
  rfl

variable (Y : FVec Ideal S262144x32 .f32)

include hL in
/-- The cluster means. -/
theorem means_at (k d : Fin 32) : means Y L (ix2 k d) = mean (fun p d => Y (ix2 p d)) (fun p => L (ix1 p)) k d := by
  have e : means Y L (ix2 k d) = Ideal.div (Host.scatterAdd scatter_S32x32_S262144x1_S262144x32_1_0_0_1
      (broadcastInDim S32x32 ![] bcast_S_S32x32 (constant S_ .f32 0x00000000#32)) (column L) Y (ix2 k d)) (sizes L (ix1 k)) := by
    pointwise [means]
  rw [e, scatter2_at, sizes_at L hL]
  have z : broadcastInDim S32x32 ![] bcast_S_S32x32 (constant (F := Ideal) S_ .f32 0x00000000#32) (ix2 k d) = (0 : EReal) := by
    pointwise
  have s : (∑ p : Fin 262144, if column L (ix2 p 0) = BitVec.ofNat 32 k then Y (ix2 p d) else 0)
      = ∑ p : Fin 262144, hot (L (ix1 p)) k * Y (ix2 p d) :=
    Finset.sum_congr rfl fun p _ => by rw [column_at, hot_mul]
  rw [z, zero_add, mean, s]

include hL in
/-- A point of a cluster reads that cluster's mean. -/
theorem owns_at (p : Fin 262144) (d k : Fin 32) (h : L (ix1 p) = BitVec.ofNat 32 k) : owns Y L (ix2 p d) = means Y L (ix2 k d) := by
  rw [owns, gather_at _ _ _ _ k]
  rw [column_at, wrapped_at _ _ (hL p), h]

end

/-- A point's distance less the radius. -/
theorem overs_at (Y O : FVec Ideal S262144x32 .f32) (p : Fin 262144) :
    overs Y O (ix1 p) = max (Ideal.sqrt (dist2 (fun d => Y (ix2 p d)) (fun d => O (ix2 p d)) + eps) - half) 0 := by
  pointwise [overs]
  rfl

/-- The hinges' sums. -/
theorem pulls_at (L : IVec S262144 32) (V : FVec Ideal S262144 .f32) (k : Fin 32) :
    pulls L V (ix1 k) = ∑ p : Fin 262144, if L (ix1 p) = BitVec.ofNat 32 k then V (ix1 p) * V (ix1 p) else 0 := by
  rw [pulls, scatter1_at]
  simp only [column_at]
  pointwise

/-- The pull term is the mean of the quotients. -/
theorem pullTerm_at (Q N : FVec Ideal S32 .f32) :
    pullTerm Q N ix0 = Ideal.div (∑ k : Fin 32, Ideal.div (Q (ix1 k)) (N (ix1 k))) clusters := by
  pointwise [pullTerm]
  rfl

/-- The shortfall of the distance of two means. -/
theorem shorts_at (M : FVec Ideal S32x32 .f32) (i j : Fin 32) :
    shorts (gaps M) (ix2 i j)
      = max (three - Ideal.sqrt (dist2 (fun d => M (ix2 i d)) (fun d => M (ix2 j d)) + eps)) 0 := by
  pointwise [shorts, gaps]
  rfl

/-- One off the diagonal, zero on it. -/
theorem offs_at (i j : Fin 32) : offs (ix2 i j) = 1 - diag i j := by
  have e : IntOp.cmpi .eq (IntOp.addi (BitVec.ofNat 32 i) 0#32) (BitVec.ofNat 32 j) = BitVec.ofBool (decide (i = j)) := by
    revert i j; decide
  pointwise [offs]
  rw [e, diag]
  refine congrArg (1 - ·) ?_
  by_cases h : i = j
  · simp only [h, decide_true, if_true]
    show (((1 : ℕ) : ℝ) : EReal) = 1
    simp
  · simp only [h, decide_false, if_false]
    show (((0 : ℕ) : ℝ) : EReal) = 0
    simp

/-- The push term is the sum of the squared shortfalls off the diagonal over the number of pairs. -/
theorem pushTerm_at (H : FVec Ideal S32x32 .f32) :
    pushTerm H ix0 = Ideal.div (∑ i : Fin 32, ∑ j : Fin 32, H (ix2 i j) * H (ix2 i j) * offs (ix2 i j)) pairs := by
  pointwise [pushTerm]
  rfl

/-- The regularization term is the mean norm. -/
theorem regTerm_at (M : FVec Ideal S32x32 .f32) : regTerm M ix0 = reg fun k d => M (ix2 k d) := by
  pointwise [regTerm]
  rfl

/-- The loss is the sum of the three terms. -/
theorem loss_at (X : FVec Ideal S2x262144x32 .f32) (T : IVec S2x262144 32) : loss X T ix0 =
      pullTerm (pulls (labs T) (overs (pts X) (owns (pts X) (labs T)))) (sizes (labs T)) ix0
      + pushTerm (shorts (gaps (means (pts X) (labs T)))) ix0
      + gamma * regTerm (means (pts X) (labs T)) ix0 := by
  pointwise [loss]
  rfl

/-- The reference's loss is the formula when no label is negative. -/
theorem loss_eq (X : FVec Ideal S2x262144x32 .f32) (T : IVec S2x262144 32) (hT : ∀ p : Fin 262144, 0 ≤ (T (ix2 0 p)).toInt) :
    loss X T = fun _ => referenceLoss (fun p d => X (ix3 0 p d)) (fun p => T (ix2 0 p)) := by
  funext i
  obtain rfl : i = ix0 := funext fun a => a.elim0
  have hL : ∀ p : Fin 262144, 0 ≤ (labs T (ix1 p)).toInt := fun p => by rw [labs_at]; exact hT p
  have hm : ∀ k d, means (pts X) (labs T) (ix2 k d) = mean (fun p d => X (ix3 0 p d)) (fun p => T (ix2 0 p)) k d := fun k d => by
    rw [means_at _ hL]; simp only [pts_at, labs_at]
  have hp : ∀ k : Fin 32, pulls (labs T) (overs (pts X) (owns (pts X) (labs T))) (ix1 k)
      = ∑ p : Fin 262144, if T (ix2 0 p) = BitVec.ofNat 32 k
          then hinge (dist2 (fun d => X (ix3 0 p d)) (mean (fun p d => X (ix3 0 p d)) (fun p => T (ix2 0 p)) k)) else 0 := fun k => by
    rw [pulls_at]
    refine Finset.sum_congr rfl fun p _ => ?_
    rw [labs_at]
    by_cases h : T (ix2 0 p) = BitVec.ofNat 32 k
    · have ho : ∀ d, owns (pts X) (labs T) (ix2 p d) = mean (fun p d => X (ix3 0 p d)) (fun p => T (ix2 0 p)) k d := fun d => by
        rw [owns_at _ hL _ p d k (by rw [labs_at, h]), hm]
      rw [if_pos h, if_pos h]
      simp only [overs_at, ho, pts_at]
      rfl
    · rw [if_neg h, if_neg h]
  rw [loss_at, pullTerm_at, pushTerm_at, regTerm_at]
  simp only [hp, sizes_at _ hL, shorts_at, offs_at, hm, labs_at]
  rfl

end Cert.ReferenceIdeal.Loss

end
-- ==== Proof.Loss.Algebraic.lean ====
/-
Kernel and reference compute the same loss over the extended reals, when no label is negative.
-/
module

public import proofs.«01_k».proof.Proof.Loss.Final
public import proofs.«01_k».proof.Proof.Loss.RefValue
public import proofs.«01_k».proof.Proof.Loss.Equation
public import proofs.«01_k».proof.Proof.Loss.Frames
public import proofs.«01_k».proof.Defs
public import proofs.«01_k».proof.Proof.Gen.KernelIdeal
public import proofs.«01_k».proof.Proof.Gen.ReferenceIdeal

@[expose] public section

set_option maxRecDepth 16384

noncomputable section

open Idealize.ShloMosaic Idealize.ShloMosaic.TcCoe Idealize.SL.Sem

namespace Cert.Proof

open Cert.Loss

/-- The side conditions of the precondition's operations. -/
theorem labels_facts : Cert.Pre_labels_nonnegative.Facts where
  slices_S2x262144_S1x262144_0_0 := by decide
  shapeCasts_S1x262144_S262144 := by decide
  bcast_S_S262144 := by decide

/-- What the precondition says of a label. -/
theorem label_nonneg (X : FVec Ideal Cert.Pre_labels_nonnegative.S2x262144x32 .f32) (T : IVec Cert.Pre_labels_nonnegative.S2x262144 32)
    (h : @Cert.Pre_labels_nonnegative.fn labels_facts Ideal _ X T = fun _ => 1#1) (p : Fin 262144) : 0 ≤ (T (ix2 0 p)).toInt := by
  have e : @Cert.Pre_labels_nonnegative.fn labels_facts Ideal _ X T (ix1 p) = IntOp.cmpi .sge (T (ix2 0 p)) 0#32 := by
    pointwise [Cert.Pre_labels_nonnegative.fn]
  rw [h] at e
  generalize T (ix2 0 p) = w at e ⊢
  by_contra hn
  have : IntOp.cmpi .sge w 0#32 = 0#1 := by
    simp only [IntOp.cmpi, BitVec.sle_eq_decide, BitVec.toInt_zero]
    rw [decide_eq_false (by omega)]; rfl
  rw [this] at e
  exact absurd (show (1#1 : BitVec 1) = 0#1 from e) (by decide)

/-- The two losses agree. -/
theorem algebraic : @Cert.algebraic_KernelIdeal_ReferenceIdeal_pre_labels_nonnegative
    Cert.KernelIdeal.Gen.facts Cert.ReferenceIdeal.Gen.facts labels_facts := by
  pair_intro
  · run_from Cert.KernelIdeal.Loss.run m g
    · exact Cert.KernelIdeal.Gen.W_main_arg0 m _ c
    · exact Cert.KernelIdeal.Gen.W_main_arg1 m _ c
  · run_from Cert.ReferenceIdeal.Value.run m' g'
    refine (Cert.ReferenceIdeal.Loss.result_eq m' c).trans ?_
    rw [(hagree c).1, (hagree c).2, Cert.ReferenceIdeal.Loss.loss_eq _ _ (label_nonneg _ _ (hpre c))]
    refine Eq.trans ?_ (Cert.KernelIdeal.Loss.value m c).symm
    rw [kernelLoss_eq]
    rfl

end Cert.Proof

end
-- ==== Proof.lean ====
/-
The discriminative-loss kernel: the certificate, assembled from the modules under `Proof/Loss`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Loss.Frames
public import proofs.«01_k».proof.Proof.Loss.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, labels_facts,
    Cert.KernelIdeal.Loss.kernel_frame, Cert.KernelIdeal.Loss.ideal_frame,
    fun m g _ => Cert.KernelIdeal.Loss.ideal_frame m g trivial,
    Cert.KernelIdeal.Loss.reference_frame,
    fun m g _ => Cert.KernelIdeal.Loss.reference_frame m g trivial, trivial, algebraic⟩

end Cert.Proof

end
